-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_on_compressed_blocks [hKernel4Ideal : Cert.Kernel4Ideal.Facts] [hReference4Ideal : Cert.Reference4Ideal.Facts] [hOn_compressed_blocks : Cert.On_compressed_blocks.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨5, ![8, 2, 2, 128, 128]⟩ : Shape).Idx, (Cert.On_compressed_blocks.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) i = 1#1 → r.2.mem ((c.tc : Thread Cert.Kernel4Ideal.nD Cert.Kernel4Ideal.τ).loc Cert.Kernel4Ideal.main_v3) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨5, ![8, 2, 2, 128, 128]⟩ : Shape).Idx, (Cert.On_compressed_blocks.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) i = 1#1 → r.2.mem ((c.tc : Thread Cert.Reference4Ideal.nD Cert.Reference4Ideal.τ).loc Cert.Reference4Ideal.main_v73) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hOn_compressed_blocks : Cert.On_compressed_blocks.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_compressed_blocks (hKernel4Ideal := hKernel4Ideal) (hReference4Ideal := hReference4Ideal) (hOn_compressed_blocks := hOn_compressed_blocks)
-- ==== On_compressed_blocks.lean ====
abbrev S16384x6144 : Shape := ⟨2, ![16384, 6144]⟩
abbrev S1x2x32x128 : Shape := ⟨4, ![1, 2, 32, 128]⟩
abbrev S1x2x4096x256 : Shape := ⟨4, ![1, 2, 4096, 256]⟩
abbrev S1x2x256x128 : Shape := ⟨4, ![1, 2, 256, 128]⟩
abbrev S8x2x2x128x128 : Shape := ⟨5, ![8, 2, 2, 128, 128]⟩
abbrev S_ : Shape := ⟨0, ![]⟩

class Facts : Prop where
  bcast_S_S8x2x2x128x128 : S_.BroadcastsInDim S8x2x2x128x128 (![] : Fin 0 → Fin S8x2x2x128x128.rank)

variable [Facts]

def fn {F : FTy → Type} [FloatOps F] (main_arg0 : FVec F S16384x6144 .f32) (main_arg1 : FVec F S1x2x32x128 .f32) (main_arg2 : FVec F S1x2x4096x256 .f32) (main_arg3 : FVec F S1x2x256x128 .f32) : IVec S8x2x2x128x128 1 :=
  let main_v0 : IVec S8x2x2x128x128 32 := iotaInDim S8x2x2x128x128 32 3
  let main_c : IVec S_ 32 := constantI S_ 32 127#32
  let main_v1 : IVec S8x2x2x128x128 32 := broadcastInDim S8x2x2x128x128 ![] bcast_S_S8x2x2x128x128 main_c
  let main_v2 : IVec S8x2x2x128x128 1 := cmpi .slt main_v0 main_v1
  main_v2
-- ==== Kernel.lean ====
abbrev S16384x6144 : Shape := ⟨2, ![16384, 6144]⟩
abbrev S1x1024 : Shape := ⟨2, ![1, 1024]⟩
abbrev S128 : Shape := ⟨1, ![128]⟩
abbrev S1x128 : Shape := ⟨2, ![1, 128]⟩
abbrev S1024 : Shape := ⟨1, ![1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S128x1 : Shape := ⟨2, ![128, 1]⟩
abbrev S2048x128 : Shape := ⟨2, ![2048, 128]⟩
abbrev S8 : Shape := ⟨1, ![8]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S16384x1024 : Shape := ⟨2, ![16384, 1024]⟩

abbrev nBuf : Space → Nat
  | .hbm => 105
  | .vmem => 20
  | .smem => 0
  | _ => 0

abbrev bufTy : (tb : Table) → Fin (tcTables nBuf tb) → BufTy
  | .hbm, ⟨0, _⟩ => ⟨S16384x6144, .f32⟩
  | .hbm, ⟨1, _⟩ => ⟨S1x1024, .f32⟩
  | .hbm, ⟨2, _⟩ => ⟨S128, .i32⟩
  | .hbm, ⟨3, _⟩ => ⟨S128, .i1⟩
  | .hbm, ⟨4, _⟩ => ⟨S128, .i32⟩
  | .hbm, ⟨5, _⟩ => ⟨S128, .i1⟩
  | .hbm, ⟨6, _⟩ => ⟨S128, .f32⟩
  | .hbm, ⟨7, _⟩ => ⟨S1x128, .f32⟩
  | .hbm, ⟨8, _⟩ => ⟨S1024, .f32⟩
  | .hbm, ⟨9, _⟩ => ⟨S1x1024, .f32⟩
  | .hbm, ⟨10, _⟩ => ⟨S2048, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S2048x128, .f32⟩
  | .hbm, ⟨33, _⟩ => ⟨S2048x32, .f32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S128, .f32⟩
  | .hbm, ⟨54, _⟩ => ⟨S128x1, .f32⟩
  | .hbm, ⟨55, _⟩ => ⟨S1x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S_, .f32⟩
  | .hbm, ⟨60, _⟩ => ⟨S128x128, .f32⟩
  | .hbm, ⟨61, _⟩ => ⟨S128x128, .i1⟩
  | .hbm, ⟨62, _⟩ => ⟨S8x1x1, .f32⟩
  | .hbm, ⟨63, _⟩ => ⟨S_, .f32⟩
  | .hbm, ⟨64, _⟩ => ⟨S128x128, .f32⟩
  | .hbm, ⟨65, _⟩ => ⟨S128x128, .f32⟩
  | .hbm, ⟨66, _⟩ => ⟨S1x128x128, .f32⟩
  | .hbm, ⟨67, _⟩ => ⟨S8x128x128, .f32⟩
  | .hbm, ⟨68, _⟩ => ⟨S8x128x128, .f32⟩
  | .hbm, ⟨69, _⟩ => ⟨S8x128x128, .f32⟩
  | .hbm, ⟨70, _⟩ => ⟨S8x128x128, .f32⟩
  | .hbm, ⟨71, _⟩ => ⟨S_, .f32⟩
  | .hbm, ⟨72, _⟩ => ⟨S_, .f32⟩
  | .hbm, ⟨73, _⟩ => ⟨S8x128x128, .i1⟩
  | .hbm, ⟨74, _⟩ => ⟨S8x128x128, .f32⟩
  | .hbm, ⟨75, _⟩ => ⟨S8x128x128, .f32⟩
  | .hbm, ⟨76, _⟩ => ⟨S8x1, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S8x128, .f32⟩
  | .hbm, ⟨82, _⟩ => ⟨S8x128, .f32⟩
  | .hbm, ⟨83, _⟩ => ⟨S8x128, .f32⟩
  | .hbm, ⟨84, _⟩ => ⟨S8x128, .f32⟩
  | .hbm, ⟨85, _⟩ => ⟨S8x1, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S8x128, .f32⟩
  | .hbm, ⟨91, _⟩ => ⟨S8x128, .f32⟩
  | .hbm, ⟨92, _⟩ => ⟨S8x128, .f32⟩
  | .hbm, ⟨93, _⟩ => ⟨S8x128, .f32⟩
  | .hbm, ⟨94, _⟩ => ⟨S_, .f32⟩
  | .hbm, ⟨95, _⟩ => ⟨S8, .f32⟩
  | .hbm, ⟨96, _⟩ => ⟨S8, .f32⟩
  | .hbm, ⟨97, _⟩ => ⟨S8, .f32⟩
  | .hbm, ⟨98, _⟩ => ⟨S8x1x1, .f32⟩
  | .hbm, ⟨99, _⟩ => ⟨S8x128x128, .f32⟩
  | .hbm, ⟨100, _⟩ => ⟨S8x128x1, .f32⟩
  | .hbm, ⟨101, _⟩ => ⟨S8x128x128, .f32⟩
  | .hbm, ⟨102, _⟩ => ⟨S8x128x1, .f32⟩
  | .hbm, ⟨103, _⟩ => ⟨S8x128x128, .f32⟩
  | .hbm, ⟨104, _⟩ => ⟨S16384x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128, .f32⟩
  | .local _ .vmem, ⟨17, _⟩ => ⟨S1x128, .f32⟩
  | .local _ .vmem, ⟨18, _⟩ => ⟨S2048x128, .bf16⟩
  | .local _ .vmem, ⟨19, _⟩ => ⟨S2048x128, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_13 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_15 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c16_i32 : BitVec 32 := 16#32
  let v21 : BitVec 32 := Scalar.addi c0_i32 c16_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v23 : BitVec 32 := Scalar.muli arg13 c128_i32
  v23
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v23 : BitVec 32 := Scalar.muli arg13 c128_i32
  let v24 : BitVec 32 := v23
  let v25 : Index := Scalar.indexCast v24
  let c0_16 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x6144 : Shape := ⟨2, ![16384, 6144]⟩
abbrev S1x1024 : Shape := ⟨2, ![1, 1024]⟩
abbrev S8x2048x6144 : Shape := ⟨3, ![8, 2048, 6144]⟩
abbrev S8x2048x1024 : Shape := ⟨3, ![8, 2048, 1024]⟩
abbrev S8x2048x8x2x64 : Shape := ⟨5, ![8, 2048, 8, 2, 64]⟩
abbrev S2048 : Shape := ⟨1, ![2048]⟩
abbrev S8x2048x8x1x64 : Shape := ⟨5, ![8, 2048, 8, 1, 64]⟩
abbrev S8x2048x8x64 : Shape := ⟨4, ![8, 2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x8x128 : Shape := ⟨4, ![8, 2048, 8, 128]⟩
abbrev S8 : Shape := ⟨1, ![8]⟩
abbrev S8x16x128x8x64 : Shape := ⟨5, ![8, 16, 128, 8, 64]⟩
abbrev S8x16x128x8x128 : Shape := ⟨5, ![8, 16, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x16x8x128x128 : Shape := ⟨5, ![8, 16, 8, 128, 128]⟩
abbrev S1x1x8x128x128 : Shape := ⟨5, ![1, 1, 8, 128, 128]⟩
abbrev S8x1 : Shape := ⟨2, ![8, 1]⟩
abbrev S8x128 : Shape := ⟨2, ![8, 128]⟩
abbrev S128x8 : Shape := ⟨2, ![128, 8]⟩
abbrev S1x1x128x8x1 : Shape := ⟨5, ![1, 1, 128, 8, 1]⟩
abbrev S8x16x8x64x128 : Shape := ⟨5, ![8, 16, 8, 64, 128]⟩
abbrev S1x8x1x1 : Shape := ⟨4, ![1, 8, 1, 1]⟩
abbrev S8x8x64x128 : Shape := ⟨4, ![8, 8, 64, 128]⟩
abbrev S8x1x8x64x128 : Shape := ⟨5, ![8, 1, 8, 64, 128]⟩
abbrev S8x2048x8 : Shape := ⟨3, ![8, 2048, 8]⟩
abbrev S8x2048x8x1 : Shape := ⟨4, ![8, 2048, 8, 1]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 300
  | .vmem => 0
  | .smem => 0
  | _ => 0

abbrev hbmTy0_0 (i : Nat) : BufTy := match i % 128 with
  | 0 => ⟨S16384x6144, .f32⟩
  | 1 => ⟨S1x1024, .f32⟩
  | 2 => ⟨S8x2048x6144, .f32⟩
  | 3 => ⟨S8x2048x1024, .f32⟩
  | 4 => ⟨S8x2048x8x2x64, .f32⟩
  | 5 => ⟨S8x2048x1024, .f32⟩
  | 6 => ⟨S8x2048x1024, .f32⟩
  | 7 => ⟨S2048, .i32⟩
  | 8 => ⟨S8x2048x8x1x64, .f32⟩
  | 9 => ⟨S8x2048x8x64, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S1x2048x1x32, .f32⟩
  | 28 => ⟨S2048x32, .f32⟩
  | 29 => ⟨S1x2048x1x32, .f32⟩
  | 30 => ⟨S8x2048x8x32, .f32⟩
  | 31 => ⟨S8x2048x8x32, .f32⟩
  | 32 => ⟨S8x2048x8x32, .f32⟩
  | 33 => ⟨S8x2048x8x32, .f32⟩
  | 34 => ⟨S8x2048x8x32, .f32⟩
  | 35 => ⟨S8x2048x8x32, .f32⟩
  | 36 => ⟨S8x2048x8x32, .f32⟩
  | 37 => ⟨S8x2048x8x32, .f32⟩
  | 38 => ⟨S8x2048x8x32, .f32⟩
  | 39 => ⟨S8x2048x8x32, .f32⟩
  | 40 => ⟨S8x2048x8x32, .f32⟩
  | 41 => ⟨S8x2048x8x32, .f32⟩
  | 42 => ⟨S8x2048x8x64, .f32⟩
  | 43 => ⟨S8x2048x8x1x64, .f32⟩
  | 44 => ⟨S8x2048x8x64, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S2048, .f32⟩
  | 56 => ⟨S2048x1, .f32⟩
  | 57 => ⟨S1x32, .f32⟩
  | 58 => ⟨S2048x32, .f32⟩
  | 59 => ⟨S2048x32, .f32⟩
  | 60 => ⟨S2048x32, .f32⟩
  | 61 => ⟨S2048x32, .f32⟩
  | 62 => ⟨S1x2048x1x32, .f32⟩
  | 63 => ⟨S2048x32, .f32⟩
  | 64 => ⟨S1x2048x1x32, .f32⟩
  | 65 => ⟨S8x2048x8x32, .f32⟩
  | 66 => ⟨S8x2048x8x32, .f32⟩
  | 67 => ⟨S8x2048x8x32, .f32⟩
  | 68 => ⟨S8x2048x8x32, .f32⟩
  | 69 => ⟨S8x2048x8x32, .f32⟩
  | 70 => ⟨S8x2048x8x32, .f32⟩
  | 71 => ⟨S8x2048x8x32, .f32⟩
  | 72 => ⟨S8x2048x8x32, .f32⟩
  | 73 => ⟨S8x2048x8x32, .f32⟩
  | 74 => ⟨S8x2048x8x32, .f32⟩
  | 75 => ⟨S8x2048x8x32, .f32⟩
  | 76 => ⟨S8x2048x8x32, .f32⟩
  | 77 => ⟨S8x2048x8x64, .f32⟩
  | 78 => ⟨S8x2048x8x128, .f32⟩
  | 79 => ⟨S_, .f32⟩
  | 80 => ⟨S8x2048x8x64, .f32⟩
  | 81 => ⟨S8x2048x8x64, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S8, .f32⟩
  | 93 => ⟨S8x16x128x8x64, .f32⟩
  | 94 => ⟨S8x16x128x8x64, .f32⟩
  | 95 => ⟨S8x16x128x8x128, .f32⟩
  | 96 => ⟨S128, .f32⟩
  | 97 => ⟨S128x1, .f32⟩
  | 98 => ⟨S1x128, .f32⟩
  | 99 => ⟨S128x128, .f32⟩
  | 100 => ⟨S128x128, .f32⟩
  | 101 => ⟨S128x128, .f32⟩
  | 102 => ⟨S_, .f32⟩
  | 103 => ⟨S128x128, .f32⟩
  | 104 => ⟨S128x128, .i1⟩
  | 105 => ⟨S8x1x1, .f32⟩
  | 106 => ⟨S_, .f32⟩
  | 107 => ⟨S128x128, .f32⟩
  | 108 => ⟨S128x128, .f32⟩
  | 109 => ⟨S1x128x128, .f32⟩
  | 110 => ⟨S8x128x128, .f32⟩
  | 111 => ⟨S8x128x128, .f32⟩
  | 112 => ⟨S8x128x128, .f32⟩
  | 113 => ⟨S8x128x128, .f32⟩
  | 114 => ⟨S_, .f32⟩
  | 115 => ⟨S_, .f32⟩
  | 116 => ⟨S8x128x128, .i1⟩
  | 117 => ⟨S8x128x128, .f32⟩
  | 118 => ⟨S8x128x128, .f32⟩
  | 119 => ⟨S8x16x8x128x128, .f32⟩
  | 120 => ⟨S1x1x8x128x128, .f32⟩
  | 121 => ⟨S8x16x8x128x128, .f32⟩
  | 122 => ⟨S8x16x8x128x128, .f32⟩
  | 123 => ⟨S8x16x8x128x128, .f32⟩
  | 124 => ⟨S8x16x128x8x128, .f32⟩
  | 125 => ⟨S8x1, .f32⟩
  | 126 => ⟨S_, .f32⟩
  | 127 => ⟨S128, .f32⟩
  | _ => ⟨S16384x6144, .f32⟩

abbrev hbmTy0_1 (i : Nat) : BufTy := match i % 128 with
  | 0 => ⟨S128, .f32⟩
  | 1 => ⟨S1x128, .f32⟩
  | 2 => ⟨S8x128, .f32⟩
  | 3 => ⟨S8x128, .f32⟩
  | 4 => ⟨S8x128, .f32⟩
  | 5 => ⟨S8x128, .f32⟩
  | 6 => ⟨S8x1, .f32⟩
  | 7 => ⟨S_, .f32⟩
  | 8 => ⟨S128, .f32⟩
  | 9 => ⟨S128, .f32⟩
  | 10 => ⟨S1x128, .f32⟩
  | 11 => ⟨S8x128, .f32⟩
  | 12 => ⟨S8x128, .f32⟩
  | 13 => ⟨S8x128, .f32⟩
  | 14 => ⟨S8x128, .f32⟩
  | 15 => ⟨S128x8, .f32⟩
  | 16 => ⟨S1x1x128x8x1, .f32⟩
  | 17 => ⟨S8x16x128x8x64, .f32⟩
  | 18 => ⟨S8x16x128x8x64, .f32⟩
  | 19 => ⟨S8x16x8x64x128, .f32⟩
  | 20 => ⟨S_, .f32⟩
  | 21 => ⟨S8, .f32⟩
  | 22 => ⟨S8, .f32⟩
  | 23 => ⟨S8, .f32⟩
  | 24 => ⟨S1x8x1x1, .f32⟩
  | 25 => ⟨S_, .f32⟩
  | 26 => ⟨S8x8x64x128, .f32⟩
  | 27 => ⟨S8x8x64x128, .f32⟩
  | 28 => ⟨S8x8x64x128, .f32⟩
  | 29 => ⟨S8x1x8x64x128, .f32⟩
  | 30 => ⟨S8x8x64x128, .f32⟩
  | 31 => ⟨S8x8x64x128, .f32⟩
  | 32 => ⟨S8x8x64x128, .f32⟩
  | 33 => ⟨S8x8x64x128, .f32⟩
  | 34 => ⟨S8x1x8x64x128, .f32⟩
  | 35 => ⟨S8x8x64x128, .f32⟩
  | 36 => ⟨S8x8x64x128, .f32⟩
  | 37 => ⟨S8x8x64x128, .f32⟩
  | 38 => ⟨S8x8x64x128, .f32⟩
  | 39 => ⟨S8x1x8x64x128, .f32⟩
  | 40 => ⟨S8x8x64x128, .f32⟩
  | 41 => ⟨S8x8x64x128, .f32⟩
  | 42 => ⟨S8x8x64x128, .f32⟩
  | 43 => ⟨S8x8x64x128, .f32⟩
  | 44 => ⟨S8x1x8x64x128, .f32⟩
  | 45 => ⟨S8x8x64x128, .f32⟩
  | 46 => ⟨S8x8x64x128, .f32⟩
  | 47 => ⟨S8x8x64x128, .f32⟩
  | 48 => ⟨S8x8x64x128, .f32⟩
  | 49 => ⟨S8x1x8x64x128, .f32⟩
  | 50 => ⟨S8x8x64x128, .f32⟩
  | 51 => ⟨S8x8x64x128, .f32⟩
  | 52 => ⟨S8x8x64x128, .f32⟩
  | 53 => ⟨S8x8x64x128, .f32⟩
  | 54 => ⟨S8x1x8x64x128, .f32⟩
  | 55 => ⟨S8x8x64x128, .f32⟩
  | 56 => ⟨S8x8x64x128, .f32⟩
  | 57 => ⟨S8x8x64x128, .f32⟩
  | 58 => ⟨S8x8x64x128, .f32⟩
  | 59 => ⟨S8x1x8x64x128, .f32⟩
  | 60 => ⟨S8x8x64x128, .f32⟩
  | 61 => ⟨S8x8x64x128, .f32⟩
  | 62 => ⟨S8x8x64x128, .f32⟩
  | 63 => ⟨S8x8x64x128, .f32⟩
  | 64 => ⟨S8x1x8x64x128, .f32⟩
  | 65 => ⟨S8x8x64x128, .f32⟩
  | 66 => ⟨S8x8x64x128, .f32⟩
  | 67 => ⟨S8x8x64x128, .f32⟩
  | 68 => ⟨S8x8x64x128, .f32⟩
  | 69 => ⟨S8x1x8x64x128, .f32⟩
  | 70 => ⟨S8x8x64x128, .f32⟩
  | 71 => ⟨S8x8x64x128, .f32⟩
  | 72 => ⟨S8x8x64x128, .f32⟩
  | 73 => ⟨S8x8x64x128, .f32⟩
  | 74 => ⟨S8x1x8x64x128, .f32⟩
  | 75 => ⟨S8x8x64x128, .f32⟩
  | 76 => ⟨S8x8x64x128, .f32⟩
  | 77 => ⟨S8x8x64x128, .f32⟩
  | 78 => ⟨S8x8x64x128, .f32⟩
  | 79 => ⟨S8x1x8x64x128, .f32⟩
  | 80 => ⟨S8x8x64x128, .f32⟩
  | 81 => ⟨S8x8x64x128, .f32⟩
  | 82 => ⟨S8x8x64x128, .f32⟩
  | 83 => ⟨S8x8x64x128, .f32⟩
  | 84 => ⟨S8x1x8x64x128, .f32⟩
  | 85 => ⟨S8x8x64x128, .f32⟩
  | 86 => ⟨S8x8x64x128, .f32⟩
  | 87 => ⟨S8x8x64x128, .f32⟩
  | 88 => ⟨S8x8x64x128, .f32⟩
  | 89 => ⟨S8x1x8x64x128, .f32⟩
  | 90 => ⟨S8x8x64x128, .f32⟩
  | 91 => ⟨S8x8x64x128, .f32⟩
  | 92 => ⟨S8x8x64x128, .f32⟩
  | 93 => ⟨S8x8x64x128, .f32⟩
  | 94 => ⟨S8x1x8x64x128, .f32⟩
  | 95 => ⟨S8x8x64x128, .f32⟩
  | 96 => ⟨S8x8x64x128, .f32⟩
  | 97 => ⟨S8x8x64x128, .f32⟩
  | 98 => ⟨S8x8x64x128, .f32⟩
  | 99 => ⟨S8x1x8x64x128, .f32⟩
  | 100 => ⟨S8x8x64x128, .f32⟩
  | 101 => ⟨S8x8x64x128, .f32⟩
  | 102 => ⟨S8x8x64x128, .f32⟩
  | 103 => ⟨S8x8x64x128, .f32⟩
  | 104 => ⟨S8x1x8x64x128, .f32⟩
  | 105 => ⟨S8x8x64x128, .f32⟩
  | 106 => ⟨S8x8x64x128, .f32⟩
  | 107 => ⟨S8x1x8x64x128, .f32⟩
  | 108 => ⟨S8x1x8x64x128, .f32⟩
  | 109 => ⟨S8x1x8x64x128, .f32⟩
  | 110 => ⟨S8x1x8x64x128, .f32⟩
  | 111 => ⟨S8x1x8x64x128, .f32⟩
  | 112 => ⟨S8x1x8x64x128, .f32⟩
  | 113 => ⟨S8x1x8x64x128, .f32⟩
  | 114 => ⟨S8x1x8x64x128, .f32⟩
  | 115 => ⟨S8x1x8x64x128, .f32⟩
  | 116 => ⟨S8x1x8x64x128, .f32⟩
  | 117 => ⟨S8x1x8x64x128, .f32⟩
  | 118 => ⟨S8x1x8x64x128, .f32⟩
  | 119 => ⟨S8x1x8x64x128, .f32⟩
  | 120 => ⟨S8x1x8x64x128, .f32⟩
  | 121 => ⟨S8x1x8x64x128, .f32⟩
  | 122 => ⟨S8x1x8x64x128, .f32⟩
  | 123 => ⟨S8x16x8x64x128, .f32⟩
  | 124 => ⟨S128x8, .f32⟩
  | 125 => ⟨S1x1x128x8x1, .f32⟩
  | 126 => ⟨S8x16x128x8x64, .f32⟩
  | 127 => ⟨S8x16x128x8x64, .f32⟩
  | _ => ⟨S16384x6144, .f32⟩

abbrev hbmTy0_2 (i : Nat) : BufTy := match i % 128 with
  | 0 => ⟨S8x16x8x128x128, .f32⟩
  | 1 => ⟨S8x16x128x8x128, .f32⟩
  | 2 => ⟨S8x16x128x8x128, .f32⟩
  | 3 => ⟨S8x2048x8x128, .f32⟩
  | 4 => ⟨S_, .f32⟩
  | 5 => ⟨S8x2048x8, .f32⟩
  | 6 => ⟨S8x2048x8x1, .f32⟩
  | 7 => ⟨S_, .f32⟩
  | 8 => ⟨S8x2048x8x1, .f32⟩
  | 9 => ⟨S8x2048x8x1, .f32⟩
  | 10 => ⟨S8x2048x8x128, .f32⟩
  | 11 => ⟨S8x2048x8x128, .f32⟩
  | 12 => ⟨S8x2048x8x128, .f32⟩
  | 13 => ⟨S_, .f32⟩
  | 14 => ⟨S8x2048x8, .f32⟩
  | 15 => ⟨S8x2048x8x1, .f32⟩
  | 16 => ⟨S_, .f32⟩
  | 17 => ⟨S8x2048x8x1, .f32⟩
  | 18 => ⟨S8x2048x8x1, .f32⟩
  | 19 => ⟨S8x2048x8x128, .f32⟩
  | 20 => ⟨S8x2048x8x128, .f32⟩
  | 21 => ⟨S_, .f32⟩
  | 22 => ⟨S8x2048x8x1, .f32⟩
  | 23 => ⟨S8x2048x8x1, .f32⟩
  | 24 => ⟨S8x2048x8x1, .f32⟩
  | 25 => ⟨S8x2048x8x128, .f32⟩
  | 26 => ⟨S8x2048x8x128, .f32⟩
  | 27 => ⟨S8x2048x1024, .f32⟩
  | 28 => ⟨S1024, .f32⟩
  | 29 => ⟨S1x1x1024, .f32⟩
  | 30 => ⟨S8x2048x1024, .f32⟩
  | 31 => ⟨S8x2048x1024, .f32⟩
  | 32 => ⟨S8x2048x1024, .f32⟩
  | 33 => ⟨S8x2048x1024, .f32⟩
  | 34 => ⟨S_, .f32⟩
  | 35 => ⟨S8x2048x1024, .f32⟩
  | 36 => ⟨S8x2048x1024, .f32⟩
  | 37 => ⟨S_, .f32⟩
  | 38 => ⟨S8x2048x1024, .f32⟩
  | 39 => ⟨S8x2048x1024, .f32⟩
  | 40 => ⟨S8x2048x1024, .f32⟩
  | 41 => ⟨S8x2048x1024, .f32⟩
  | 42 => ⟨S16384x1024, .f32⟩
  | 43 => ⟨S16384x1024, .bf16⟩
  | _ => ⟨S16384x6144, .f32⟩

abbrev hbmTy (i : Nat) : BufTy := match i / 128 with
  | 0 => hbmTy0_0 i
  | 1 => hbmTy0_1 i
  | 2 => hbmTy0_2 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_v43 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_5 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_6 : Ref sig .tc := ⟨.hbm, 83, rfl⟩
abbrev main_v74 : Ref sig .tc := ⟨.hbm, 84, rfl⟩
abbrev main_v75 : Ref sig .tc := ⟨.hbm, 85, rfl⟩
abbrev main_cst_7 : Ref sig .tc := ⟨.hbm, 86, rfl⟩
abbrev main_v76 : Ref sig .tc := ⟨.hbm, 87, rfl⟩
abbrev main_v77 : Ref sig .tc := ⟨.hbm, 88, rfl⟩
abbrev main_cst_8 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_9 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_10 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_11 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_12 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_13 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_14 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_15 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_cst_16 : Ref sig .tc := ⟨.hbm, 260, rfl⟩
abbrev main_v238 : Ref sig .tc := ⟨.hbm, 261, rfl⟩
abbrev main_v239 : Ref sig .tc := ⟨.hbm, 262, rfl⟩
abbrev main_cst_17 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_cst_18 : Ref sig .tc := ⟨.hbm, 269, rfl⟩
abbrev main_v245 : Ref sig .tc := ⟨.hbm, 270, rfl⟩
abbrev main_v246 : Ref sig .tc := ⟨.hbm, 271, rfl⟩
abbrev main_cst_19 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_cst_20 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_call1_v0 : Ref sig .tc := ⟨.hbm, 288, rfl⟩
abbrev main_call1_v1 : Ref sig .tc := ⟨.hbm, 289, rfl⟩
abbrev main_call1_cst : Ref sig .tc := ⟨.hbm, 290, rfl⟩
abbrev main_call1_v2 : Ref sig .tc := ⟨.hbm, 291, rfl⟩
abbrev main_call1_v3 : Ref sig .tc := ⟨.hbm, 292, rfl⟩
abbrev main_call1_cst_0 : Ref sig .tc := ⟨.hbm, 293, rfl⟩
abbrev main_call1_v4 : Ref sig .tc := ⟨.hbm, 294, rfl⟩
abbrev main_call1_v5 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩

abbrev nD : Nat := 1
abbrev τ : Topo := Topo.v7x

variable {F : FTy → Type} [FloatOps F]
-- ==== Kernel2.lean ====
abbrev S8x2048x2048 : Shape := ⟨3, ![8, 2048, 2048]⟩
abbrev S1x2048 : Shape := ⟨2, ![1, 2048]⟩
abbrev S1x2048x5656 : Shape := ⟨3, ![1, 2048, 5656]⟩
abbrev S16384x2048 : Shape := ⟨2, ![16384, 2048]⟩
abbrev S2048 : Shape := ⟨1, ![2048]⟩
abbrev S2048x5656 : Shape := ⟨2, ![2048, 5656]⟩
abbrev S2048x64 : Shape := ⟨2, ![2048, 64]⟩
abbrev S2048x4608 : Shape := ⟨2, ![2048, 4608]⟩
abbrev S2048x12 : Shape := ⟨2, ![2048, 12]⟩
abbrev S_ : Shape := ⟨0, ![]⟩
abbrev S2048x116 : Shape := ⟨2, ![2048, 116]⟩
abbrev S2048x256 : Shape := ⟨2, ![2048, 256]⟩
abbrev S2048x1024 : Shape := ⟨2, ![2048, 1024]⟩
abbrev S2048x5120 : Shape := ⟨2, ![2048, 5120]⟩
abbrev S2048x6144 : Shape := ⟨2, ![2048, 6144]⟩
abbrev S16384x6144 : Shape := ⟨2, ![16384, 6144]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 37
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5656, .f32⟩
  | .hbm, ⟨3, _⟩ => ⟨S16384x2048, .f32⟩
  | .hbm, ⟨4, _⟩ => ⟨S2048, .f32⟩
  | .hbm, ⟨5, _⟩ => ⟨S1x2048, .f32⟩
  | .hbm, ⟨6, _⟩ => ⟨S2048x5656, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x4608, .f32⟩
  | .hbm, ⟨24, _⟩ => ⟨S2048x12, .f32⟩
  | .hbm, ⟨25, _⟩ => ⟨S_, .f32⟩
  | .hbm, ⟨26, _⟩ => ⟨S2048x116, .f32⟩
  | .hbm, ⟨27, _⟩ => ⟨S2048x12, .f32⟩
  | .hbm, ⟨28, _⟩ => ⟨S_, .f32⟩
  | .hbm, ⟨29, _⟩ => ⟨S2048x116, .f32⟩
  | .hbm, ⟨30, _⟩ => ⟨S_, .f32⟩
  | .hbm, ⟨31, _⟩ => ⟨S2048x256, .f32⟩
  | .hbm, ⟨32, _⟩ => ⟨S2048x1024, .f32⟩
  | .hbm, ⟨33, _⟩ => ⟨S2048x5120, .f32⟩
  | .hbm, ⟨34, _⟩ => ⟨S2048x6144, .f32⟩
  | .hbm, ⟨35, _⟩ => ⟨S2048x6144, .bf16⟩
  | .hbm, ⟨36, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x2048x2048 : Shape := ⟨3, ![8, 2048, 2048]⟩
abbrev S1x2048 : Shape := ⟨2, ![1, 2048]⟩
abbrev S1x2048x5656 : Shape := ⟨3, ![1, 2048, 5656]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S2048x5656 : Shape := ⟨2, ![2048, 5656]⟩
abbrev S8x2048x5656 : Shape := ⟨3, ![8, 2048, 5656]⟩
abbrev S8x2048x512 : Shape := ⟨3, ![8, 2048, 512]⟩
abbrev S8x2048x8x1x64 : Shape := ⟨5, ![8, 2048, 8, 1, 64]⟩
abbrev S8x2048x8x2x64 : Shape := ⟨5, ![8, 2048, 8, 2, 64]⟩
abbrev S8x2048x1024 : Shape := ⟨3, ![8, 2048, 1024]⟩
abbrev S8x2048x24 : Shape := ⟨3, ![8, 2048, 24]⟩
abbrev S8x2048x2x12 : Shape := ⟨4, ![8, 2048, 2, 12]⟩
abbrev S8x2048x2x128 : Shape := ⟨4, ![8, 2048, 2, 128]⟩
abbrev S8x2048x256 : Shape := ⟨3, ![8, 2048, 256]⟩
abbrev S8x2048x4608 : Shape := ⟨3, ![8, 2048, 4608]⟩
abbrev S8x2048x6144 : Shape := ⟨3, ![8, 2048, 6144]⟩
abbrev S16384x6144 : Shape := ⟨2, ![16384, 6144]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5656, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x5656, .f32⟩
  | .hbm, ⟨21, _⟩ => ⟨S8x2048x5656, .f32⟩
  | .hbm, ⟨22, _⟩ => ⟨S8x2048x512, .f32⟩
  | .hbm, ⟨23, _⟩ => ⟨S8x2048x8x1x64, .f32⟩
  | .hbm, ⟨24, _⟩ => ⟨S8x2048x512, .f32⟩
  | .hbm, ⟨25, _⟩ => ⟨S8x2048x8x1x64, .f32⟩
  | .hbm, ⟨26, _⟩ => ⟨S8x2048x8x2x64, .f32⟩
  | .hbm, ⟨27, _⟩ => ⟨S8x2048x1024, .f32⟩
  | .hbm, ⟨28, _⟩ => ⟨S8x2048x24, .f32⟩
  | .hbm, ⟨29, _⟩ => ⟨S8x2048x2x12, .f32⟩
  | .hbm, ⟨30, _⟩ => ⟨S_, .i32⟩
  | .hbm, ⟨31, _⟩ => ⟨S_, .f32⟩
  | .hbm, ⟨32, _⟩ => ⟨S8x2048x2x128, .f32⟩
  | .hbm, ⟨33, _⟩ => ⟨S8x2048x256, .f32⟩
  | .hbm, ⟨34, _⟩ => ⟨S8x2048x4608, .f32⟩
  | .hbm, ⟨35, _⟩ => ⟨S_, .f32⟩
  | .hbm, ⟨36, _⟩ => ⟨S8x2048x256, .f32⟩
  | .hbm, ⟨37, _⟩ => ⟨S8x2048x6144, .f32⟩
  | .hbm, ⟨38, _⟩ => ⟨S16384x6144, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel3.lean ====
abbrev S8x2048x2048 : Shape := ⟨3, ![8, 2048, 2048]⟩
abbrev S16384x1024 : Shape := ⟨2, ![16384, 1024]⟩
abbrev S1x2048x2048 : Shape := ⟨3, ![1, 2048, 2048]⟩
abbrev S1x2048 : Shape := ⟨2, ![1, 2048]⟩
abbrev S2048x2048 : Shape := ⟨2, ![2048, 2048]⟩
abbrev S16384x2048 : Shape := ⟨2, ![16384, 2048]⟩
abbrev S1024x2048 : Shape := ⟨2, ![1024, 2048]⟩
abbrev S2048 : Shape := ⟨1, ![2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S16384x2048, .f32⟩
  | .hbm, ⟨8, _⟩ => ⟨S1024x2048, .bf16⟩
  | .hbm, ⟨9, _⟩ => ⟨S1024x2048, .bf16⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x2048x2048 : Shape := ⟨3, ![8, 2048, 2048]⟩
abbrev S16384x1024 : Shape := ⟨2, ![16384, 1024]⟩
abbrev S1x2048x2048 : Shape := ⟨3, ![1, 2048, 2048]⟩
abbrev S1x2048 : Shape := ⟨2, ![1, 2048]⟩
abbrev S16384x2048 : Shape := ⟨2, ![16384, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S2048 : Shape := ⟨1, ![2048]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S1x2048, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S2048, .f32⟩
  | .hbm, ⟨26, _⟩ => ⟨S1x2048, .f32⟩
  | .hbm, ⟨27, _⟩ => ⟨S16384x2048, .f32⟩
  | .hbm, ⟨28, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S16384x6144 : Shape := ⟨2, ![16384, 6144]⟩
abbrev S1x2x32x128 : Shape := ⟨4, ![1, 2, 32, 128]⟩
abbrev S1x2x4096x256 : Shape := ⟨4, ![1, 2, 4096, 256]⟩
abbrev S1x2x256x128 : Shape := ⟨4, ![1, 2, 256, 128]⟩
abbrev S2x32x128 : Shape := ⟨3, ![2, 32, 128]⟩
abbrev S2x4096x256 : Shape := ⟨3, ![2, 4096, 256]⟩
abbrev S2x256x128 : Shape := ⟨3, ![2, 256, 128]⟩
abbrev S8x2x2x128x128 : Shape := ⟨5, ![8, 2, 2, 128, 128]⟩
abbrev S2048x128 : Shape := ⟨2, ![2048, 128]⟩
abbrev S1x32x128 : Shape := ⟨3, ![1, 32, 128]⟩
abbrev S1x4096x256 : Shape := ⟨3, ![1, 4096, 256]⟩
abbrev S1x256x128 : Shape := ⟨3, ![1, 256, 128]⟩
abbrev S1x1x1x128x128 : Shape := ⟨5, ![1, 1, 1, 128, 128]⟩
abbrev S128x256 : Shape := ⟨2, ![128, 256]⟩
abbrev S128x128 : Shape := ⟨2, ![128, 128]⟩
abbrev S1x1x128 : Shape := ⟨3, ![1, 1, 128]⟩
abbrev S1x128 : Shape := ⟨2, ![1, 128]⟩
abbrev S1x128x256 : Shape := ⟨3, ![1, 128, 256]⟩
abbrev S256x128 : Shape := ⟨2, ![256, 128]⟩

abbrev nBuf : Space → Nat
  | .hbm => 8
  | .vmem => 10
  | .smem => 0
  | _ => 0

abbrev bufTy : (tb : Table) → Fin (tcTables nBuf tb) → BufTy
  | .hbm, ⟨0, _⟩ => ⟨S16384x6144, .f32⟩
  | .hbm, ⟨1, _⟩ => ⟨S1x2x32x128, .f32⟩
  | .hbm, ⟨2, _⟩ => ⟨S1x2x4096x256, .f32⟩
  | .hbm, ⟨3, _⟩ => ⟨S1x2x256x128, .f32⟩
  | .hbm, ⟨4, _⟩ => ⟨S2x32x128, .f32⟩
  | .hbm, ⟨5, _⟩ => ⟨S2x4096x256, .f32⟩
  | .hbm, ⟨6, _⟩ => ⟨S2x256x128, .f32⟩
  | .hbm, ⟨7, _⟩ => ⟨S8x2x2x128x128, .f32⟩
  | .local _ .vmem, ⟨0, _⟩ => ⟨S2048x128, .f32⟩
  | .local _ .vmem, ⟨1, _⟩ => ⟨S2048x128, .f32⟩
  | .local _ .vmem, ⟨2, _⟩ => ⟨S1x32x128, .f32⟩
  | .local _ .vmem, ⟨3, _⟩ => ⟨S1x32x128, .f32⟩
  | .local _ .vmem, ⟨4, _⟩ => ⟨S1x4096x256, .f32⟩
  | .local _ .vmem, ⟨5, _⟩ => ⟨S1x4096x256, .f32⟩
  | .local _ .vmem, ⟨6, _⟩ => ⟨S1x256x128, .f32⟩
  | .local _ .vmem, ⟨7, _⟩ => ⟨S1x256x128, .f32⟩
  | .local _ .vmem, ⟨8, _⟩ => ⟨S1x1x1x128x128, .f32⟩
  | .local _ .vmem, ⟨9, _⟩ => ⟨S1x1x1x128x128, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c32_i32 : BitVec 32 := 32#32
  let v1 : BitVec 32 := Scalar.addi c32_i32 v0
  let v2 : BitVec 32 := Scalar.addi v1 arg2
  let c0_i32 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S16384x6144 : Shape := ⟨2, ![16384, 6144]⟩
abbrev S1x2x32x128 : Shape := ⟨4, ![1, 2, 32, 128]⟩
abbrev S1x2x4096x256 : Shape := ⟨4, ![1, 2, 4096, 256]⟩
abbrev S1x2x256x128 : Shape := ⟨4, ![1, 2, 256, 128]⟩
abbrev S8x2048x6144 : Shape := ⟨3, ![8, 2048, 6144]⟩
abbrev S8x2048x512 : Shape := ⟨3, ![8, 2048, 512]⟩
abbrev S8x2048x2x2x128 : Shape := ⟨5, ![8, 2048, 2, 2, 128]⟩
abbrev S8x2048x1x2x128 : Shape := ⟨5, ![8, 2048, 1, 2, 128]⟩
abbrev S8x2048x2x128 : Shape := ⟨4, ![8, 2048, 2, 128]⟩
abbrev S1x1x32x128 : Shape := ⟨4, ![1, 1, 32, 128]⟩
abbrev S32x128 : Shape := ⟨2, ![32, 128]⟩
abbrev S1x1x4096x256 : Shape := ⟨4, ![1, 1, 4096, 256]⟩
abbrev S4096x256 : Shape := ⟨2, ![4096, 256]⟩
abbrev S1x1x256x128 : Shape := ⟨4, ![1, 1, 256, 128]⟩
abbrev S256x128 : Shape := ⟨2, ![256, 128]⟩
abbrev S8x128x16x2x128 : Shape := ⟨5, ![8, 128, 16, 2, 128]⟩
abbrev S8x127x16x2x128 : Shape := ⟨5, ![8, 127, 16, 2, 128]⟩
abbrev S8x127x32x2x128 : Shape := ⟨5, ![8, 127, 32, 2, 128]⟩
abbrev S32x1x128 : Shape := ⟨3, ![32, 1, 128]⟩
abbrev S1x1x32x1x128 : Shape := ⟨5, ![1, 1, 32, 1, 128]⟩
abbrev S8x127x2x32x128 : Shape := ⟨5, ![8, 127, 2, 32, 128]⟩
abbrev S8x127x2x4096 : Shape := ⟨4, ![8, 127, 2, 4096]⟩
abbrev S8x127x2x256 : Shape := ⟨4, ![8, 127, 2, 256]⟩
abbrev S_ : Shape := ⟨0, ![]⟩
abbrev S8x127x2x128 : Shape := ⟨4, ![8, 127, 2, 128]⟩
abbrev S8x1x127x2x128 : Shape := ⟨5, ![8, 1, 127, 2, 128]⟩
abbrev S8x2x127x2x128 : Shape := ⟨5, ![8, 2, 127, 2, 128]⟩
abbrev S8x2x2x127x128 : Shape := ⟨5, ![8, 2, 2, 127, 128]⟩
abbrev S8x2x2x128x128 : Shape := ⟨5, ![8, 2, 2, 128, 128]⟩

abbrev nBuf : Space → Nat
  | .hbm => 88
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S1x2x32x128, .f32⟩
  | .hbm, ⟨2, _⟩ => ⟨S1x2x4096x256, .f32⟩
  | .hbm, ⟨3, _⟩ => ⟨S1x2x256x128, .f32⟩
  | .hbm, ⟨4, _⟩ => ⟨S8x2048x6144, .f32⟩
  | .hbm, ⟨5, _⟩ => ⟨S8x2048x512, .f32⟩
  | .hbm, ⟨6, _⟩ => ⟨S8x2048x2x2x128, .f32⟩
  | .hbm, ⟨7, _⟩ => ⟨S8x2048x1x2x128, .f32⟩
  | .hbm, ⟨8, _⟩ => ⟨S8x2048x2x128, .f32⟩
  | .hbm, ⟨9, _⟩ => ⟨S1x1x32x128, .f32⟩
  | .hbm, ⟨10, _⟩ => ⟨S32x128, .f32⟩
  | .hbm, ⟨11, _⟩ => ⟨S1x1x4096x256, .f32⟩
  | .hbm, ⟨12, _⟩ => ⟨S4096x256, .f32⟩
  | .hbm, ⟨13, _⟩ => ⟨S1x1x256x128, .f32⟩
  | .hbm, ⟨14, _⟩ => ⟨S256x128, .f32⟩
  | .hbm, ⟨15, _⟩ => ⟨S8x128x16x2x128, .f32⟩
  | .hbm, ⟨16, _⟩ => ⟨S8x127x16x2x128, .f32⟩
  | .hbm, ⟨17, _⟩ => ⟨S8x127x16x2x128, .f32⟩
  | .hbm, ⟨18, _⟩ => ⟨S8x127x32x2x128, .f32⟩
  | .hbm, ⟨19, _⟩ => ⟨S32x1x128, .f32⟩
  | .hbm, ⟨20, _⟩ => ⟨S1x1x32x1x128, .f32⟩
  | .hbm, ⟨21, _⟩ => ⟨S8x127x32x2x128, .f32⟩
  | .hbm, ⟨22, _⟩ => ⟨S8x127x32x2x128, .f32⟩
  | .hbm, ⟨23, _⟩ => ⟨S8x127x2x32x128, .f32⟩
  | .hbm, ⟨24, _⟩ => ⟨S8x127x2x4096, .f32⟩
  | .hbm, ⟨25, _⟩ => ⟨S8x127x2x256, .f32⟩
  | .hbm, ⟨26, _⟩ => ⟨S8x127x2x256, .f32⟩
  | .hbm, ⟨27, _⟩ => ⟨S8x127x2x256, .f32⟩
  | .hbm, ⟨28, _⟩ => ⟨S_, .f32⟩
  | .hbm, ⟨29, _⟩ => ⟨S8x127x2x256, .f32⟩
  | .hbm, ⟨30, _⟩ => ⟨S8x127x2x256, .f32⟩
  | .hbm, ⟨31, _⟩ => ⟨S8x127x2x256, .f32⟩
  | .hbm, ⟨32, _⟩ => ⟨S_, .f32⟩
  | .hbm, ⟨33, _⟩ => ⟨S8x127x2x256, .f32⟩
  | .hbm, ⟨34, _⟩ => ⟨S8x127x2x256, .f32⟩
  | .hbm, ⟨35, _⟩ => ⟨S8x127x2x256, .f32⟩
  | .hbm, ⟨36, _⟩ => ⟨S_, .f32⟩
  | .hbm, ⟨37, _⟩ => ⟨S8x127x2x256, .f32⟩
  | .hbm, ⟨38, _⟩ => ⟨S8x127x2x256, .f32⟩
  | .hbm, ⟨39, _⟩ => ⟨S_, .f32⟩
  | .hbm, ⟨40, _⟩ => ⟨S8x127x2x256, .f32⟩
  | .hbm, ⟨41, _⟩ => ⟨S8x127x2x256, .f32⟩
  | .hbm, ⟨42, _⟩ => ⟨S8x127x2x256, .f32⟩
  | .hbm, ⟨43, _⟩ => ⟨S8x127x2x128, .f32⟩
  | .hbm, ⟨44, _⟩ => ⟨S8x2048x1x2x128, .f32⟩
  | .hbm, ⟨45, _⟩ => ⟨S8x2048x2x128, .f32⟩
  | .hbm, ⟨46, _⟩ => ⟨S1x1x32x128, .f32⟩
  | .hbm, ⟨47, _⟩ => ⟨S32x128, .f32⟩
  | .hbm, ⟨48, _⟩ => ⟨S1x1x4096x256, .f32⟩
  | .hbm, ⟨49, _⟩ => ⟨S4096x256, .f32⟩
  | .hbm, ⟨50, _⟩ => ⟨S1x1x256x128, .f32⟩
  | .hbm, ⟨51, _⟩ => ⟨S256x128, .f32⟩
  | .hbm, ⟨52, _⟩ => ⟨S8x128x16x2x128, .f32⟩
  | .hbm, ⟨53, _⟩ => ⟨S8x127x16x2x128, .f32⟩
  | .hbm, ⟨54, _⟩ => ⟨S8x127x16x2x128, .f32⟩
  | .hbm, ⟨55, _⟩ => ⟨S8x127x32x2x128, .f32⟩
  | .hbm, ⟨56, _⟩ => ⟨S32x1x128, .f32⟩
  | .hbm, ⟨57, _⟩ => ⟨S1x1x32x1x128, .f32⟩
  | .hbm, ⟨58, _⟩ => ⟨S8x127x32x2x128, .f32⟩
  | .hbm, ⟨59, _⟩ => ⟨S8x127x32x2x128, .f32⟩
  | .hbm, ⟨60, _⟩ => ⟨S8x127x2x32x128, .f32⟩
  | .hbm, ⟨61, _⟩ => ⟨S8x127x2x4096, .f32⟩
  | .hbm, ⟨62, _⟩ => ⟨S8x127x2x256, .f32⟩
  | .hbm, ⟨63, _⟩ => ⟨S8x127x2x256, .f32⟩
  | .hbm, ⟨64, _⟩ => ⟨S8x127x2x256, .f32⟩
  | .hbm, ⟨65, _⟩ => ⟨S_, .f32⟩
  | .hbm, ⟨66, _⟩ => ⟨S8x127x2x256, .f32⟩
  | .hbm, ⟨67, _⟩ => ⟨S8x127x2x256, .f32⟩
  | .hbm, ⟨68, _⟩ => ⟨S8x127x2x256, .f32⟩
  | .hbm, ⟨69, _⟩ => ⟨S_, .f32⟩
  | .hbm, ⟨70, _⟩ => ⟨S8x127x2x256, .f32⟩
  | .hbm, ⟨71, _⟩ => ⟨S8x127x2x256, .f32⟩
  | .hbm, ⟨72, _⟩ => ⟨S8x127x2x256, .f32⟩
  | .hbm, ⟨73, _⟩ => ⟨S_, .f32⟩
  | .hbm, ⟨74, _⟩ => ⟨S8x127x2x256, .f32⟩
  | .hbm, ⟨75, _⟩ => ⟨S8x127x2x256, .f32⟩
  | .hbm, ⟨76, _⟩ => ⟨S_, .f32⟩
  | .hbm, ⟨77, _⟩ => ⟨S8x127x2x256, .f32⟩
  | .hbm, ⟨78, _⟩ => ⟨S8x127x2x256, .f32⟩
  | .hbm, ⟨79, _⟩ => ⟨S8x127x2x256, .f32⟩
  | .hbm, ⟨80, _⟩ => ⟨S8x127x2x128, .f32⟩
  | .hbm, ⟨81, _⟩ => ⟨S8x1x127x2x128, .f32⟩
  | .hbm, ⟨82, _⟩ => ⟨S8x1x127x2x128, .f32⟩
  | .hbm, ⟨83, _⟩ => ⟨S8x2x127x2x128, .f32⟩
  | .hbm, ⟨84, _⟩ => ⟨S8x2x2x127x128, .f32⟩
  | .hbm, ⟨85, _⟩ => ⟨S_, .i32⟩
  | .hbm, ⟨86, _⟩ => ⟨S_, .f32⟩
  | .hbm, ⟨87, _⟩ => ⟨S8x2x2x128x128, .f32⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_c : Ref sig .tc := ⟨.hbm, 85, rfl⟩
abbrev main_call0_v0 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Proof.InProj.lean ====
/- The input projection's result array: normalized rows times the laid-out weight, which is the reference's own term of the arguments. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.StableHlo.ReadAt
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.InProj

open Cert.Kernel2Ideal Cert.Kernel2Ideal.Gen

variable (m : (ℓ : Loc nD τ sig) → Buf (Elt Ideal) ℓ)

/-- Where each window's block sits at each grid point. -/
theorem idx : ∀ t : Fin cfg0.N, win0_0.index t = ![t.val / 6, 0] ∧ win0_1.index t = ![0, 0] ∧ win0_2.index t = ![0, t.val % 6]
    ∧ win0_3.index t = ![t.val / 6, t.val % 6] :=
  (by decide +kernel : ∀ t : Fin grid0.N, _)

open Cert.Reference2Ideal.Read in
/-- The reference's normalized rows, over the argument arrays. -/
abbrev XN (x : FVec Ideal S8x2048x2048 .f32) (g : FVec Ideal S1x2048 .f32) : FVec Ideal S8x2048x2048 .f32 := val_main_v13 (F := Ideal) x g

open Cert.Reference2Ideal.Read in
/-- The reference's result, over the argument arrays. -/
abbrev REF (x : FVec Ideal S8x2048x2048 .f32) (g : FVec Ideal S1x2048 .f32) (w : FVec Ideal S1x2048x5656 .f32) :
    FVec Ideal S16384x6144 .f32 := val_main_v29 (F := Ideal) x g w

/-- One element of the normalized block, over any block. -/
theorem pay1_at (x0 : FVec Ideal S1024x2048 .f32) (x1 : FVec Ideal S1x2048 .f32) (r : Fin 1024) (q : Fin 2048) :
    k0_pay1 (F := Ideal) x0 x1 (ix2 r q)
    = x0 (ix2 r q) * Ideal.rsqrt (Ideal.div (∑ k : Fin 2048, x0 (ix2 r k) * x0 (ix2 r k))
        (Ideal.ofBits .f32 0x45000000#32) + Ideal.ofBits .f32 0x358637BD#32) * x1 (ix2 0 q) := by
  pointwise [k0_pay1]

/-- One element of the stored block, over any blocks. -/
theorem pay2_at (a : FVec Ideal S1024x2048 .bf16) (w : FVec Ideal S2048x1024 .bf16) (r : Fin 1024) (q : Fin 1024) :
    k0_pay2 (F := Ideal) a w (ix2 r q) = ∑ k : Fin 2048, a (ix2 r k) * w (ix2 k q) := by
  pointwise [k0_pay2]

open Cert.Reference2Ideal.Read in
/-- One element of the reference's normalized rows. -/
theorem xn_at (x : FVec Ideal S8x2048x2048 .f32) (g : FVec Ideal S1x2048 .f32) (b : Fin 8) (s q : Fin 2048) :
    XN x g (ix3 b s q)
    = x (ix3 b s q) * Ideal.rsqrt (Ideal.div (∑ k : Fin 2048, x (ix3 b s k) * x (ix3 b s k))
        (Ideal.ofBits .f32 0x45000000#32) + Ideal.ofBits .f32 0x358637BD#32) * g (ix2 0 q) := by
  pointwise [XN, val_main_v0, val_main_cst, val_main_v1, val_main_v2, val_main_cst_0, val_main_v3, val_main_v4, val_main_cst_1, val_main_v5,
    val_main_v6, val_main_v7, val_main_v8, val_main_v9, val_main_v10, val_main_v11, val_main_v12, val_main_v13]

/-- The input rows, as the argument holds them. -/
abbrev X (c : Dev nD) : FVec Ideal S8x2048x2048 .f32 := m (c, Proc.tc.devRef main_arg0)

/-- The norm's weight, as the argument holds it. -/
abbrev G (c : Dev nD) : FVec Ideal S1x2048 .f32 := m (c, Proc.tc.devRef main_arg1)

/-- The projection's weight, as the argument holds it. -/
abbrev W (c : Dev nD) : FVec Ideal S1x2048x5656 .f32 := m (c, Proc.tc.devRef main_arg2)

/-- The rows as they are staged: batch and position as one row number. -/
theorem rows_at (c : Dev nD) (r : Fin 16384) (k : Fin 2048) : (V m c main_v0 : FVec Ideal S16384x2048 .f32) (ix2 r k)
    = X m c (ix3 ⟨r.val / 2048, by omega⟩ ⟨r.val % 2048, by omega⟩ k) := by
  unfold V
  after_reads_at

/-- The norm's weight as it is staged. -/
theorem gain_at (c : Dev nD) (k : Fin 2048) : (V m c main_v2 : FVec Ideal S1x2048 .f32) (ix2 0 k) = G m c (ix2 0 k) := by
  unfold V
  after_reads_at

/-- The weight's first 1024 laid-out columns as they are staged: query and key heads in turn. -/
def QK (c : Dev nD) : FVec Ideal S2048x1024 .f32 := StableHlo.upto hostOps0 (fun b => m (c, b)) 31 (Proc.tc.devRef main_v26)

/-- The weight's other laid-out columns as they are staged: values and gates, the two groups of twelve, zeros. -/
def VG (c : Dev nD) : FVec Ideal S2048x5120 .f32 := StableHlo.upto hostOps0 (fun b => m (c, b)) 31 (Proc.tc.devRef main_v27)

/-- The laid-out weight, as its two parts. -/
theorem weight_at (c : Dev nD) (k : Fin 2048) (q : Fin 6144) : (V m c main_v29 : FVec Ideal S2048x6144 .bf16) (ix2 k q)
    = if h : q.val < 1024 then QK m c (ix2 k ⟨q.val, h⟩) else VG m c (ix2 k ⟨q.val - 1024, by omega⟩) := by
  unfold V
  after_reads_simp
  generalize hA : StableHlo.upto hostOps0 (fun b => m (c, b)) 31 (Proc.tc.devRef main_v26) = A
  generalize hB : StableHlo.upto hostOps0 (fun b => m (c, b)) 31 (Proc.tc.devRef main_v27) = B
  change FVec Ideal S2048x1024 .f32 at A
  change FVec Ideal S2048x5120 .f32 at B
  have hq : QK m c = A := by unfold QK; exact hA
  have hv : VG m c = B := by unfold VG; exact hB
  rw [hq, hv]
  clear hA hB hq hv
  pointwise

/-- Sixteen groups of 64 columns side by side: column 64 p + l is column l of group p. -/
theorem groups_at (a0 a1 a2 a3 a4 a5 a6 a7 a8 a9 a10 a11 a12 a13 a14 a15 : FVec Ideal S2048x64 .f32) (k : Fin 2048) (p : Fin 16) (l : Fin 64) :
    concatenate S2048x1024 1 [⟨S2048x64, a0⟩, ⟨S2048x64, a1⟩, ⟨S2048x64, a2⟩, ⟨S2048x64, a3⟩, ⟨S2048x64, a4⟩, ⟨S2048x64, a5⟩, ⟨S2048x64, a6⟩, ⟨S2048x64, a7⟩, ⟨S2048x64, a8⟩, ⟨S2048x64, a9⟩, ⟨S2048x64, a10⟩, ⟨S2048x64, a11⟩, ⟨S2048x64, a12⟩, ⟨S2048x64, a13⟩, ⟨S2048x64, a14⟩, ⟨S2048x64, a15⟩]
      concatenates_S2048x64_S2048x64_S2048x64_S2048x64_S2048x64_S2048x64_S2048x64_S2048x64_S2048x64_S2048x64_S2048x64_S2048x64_S2048x64_S2048x64_S2048x64_S2048x64_S2048x1024_d1
      (ix2 k ⟨64 * p.val + l.val, by omega⟩)
    = ![a0, a1, a2, a3, a4, a5, a6, a7, a8, a9, a10, a11, a12, a13, a14, a15] p (ix2 k l) := by
  refine (Idealize.ShloMosaic.concatenate_ofFn_apply (t := S2048x1024) (s₁ := S2048x64) 1 ![a0, a1, a2, a3, a4, a5, a6, a7, a8, a9, a10, a11, a12, a13, a14, a15] _ rfl 64 rfl _ p ?_ (ix2 k l) ?_ ?_).trans rfl
  · show (64 * p.val + l.val) / 64 = p.val; omega
  · show l.val = (64 * p.val + l.val) % 64; omega
  · intro b hb
    fin_cases b
    · rfl
    · exact absurd rfl hb

set_option maxHeartbeats 1600000 in
/-- The source of each column of the query and key heads, by its group of 64. -/
theorem qk_at (c : Dev nD) (k : Fin 2048) (p : Fin 16) (l : Fin 64) :
    QK m c (ix2 k ⟨64 * p.val + l.val, by omega⟩)
    = W m c (ix3 0 k ⟨p.val / 2 * 64 + p.val % 2 * 512 + l.val, by omega⟩) := by
  unfold QK
  after_reads_simp
  refine (groups_at .. ).trans ?_
  fin_cases p
  all_goals
    after_reads_at
    after_reads_at

/-- The source of each of the weight's other laid-out columns. -/
theorem vg_at (c : Dev nD) (k : Fin 2048) (q : Fin 5120) : VG m c (ix2 k q)
    = if h : q.val < 4608 then W m c (ix3 0 k ⟨1024 + q.val, by omega⟩)
      else if h1 : q.val - 4608 < 12 then W m c (ix3 0 k ⟨5632 + (q.val - 4608), by omega⟩)
      else if h2 : q.val - 4608 - 12 < 116 then (0 : EReal)
      else if h3 : q.val - 4608 - 12 - 116 < 12 then
        W m c (ix3 0 k ⟨5644 + (q.val - 4608 - 12 - 116), by omega⟩)
      else (0 : EReal) := by
  unfold VG
  after_reads_simp
  pointwise
  after_reads_at
  repeat' split
  all_goals rfl

open Cert.Reference2Ideal.Read in
/-- The gates' columns, twelve in each group of 128 lanes. -/
theorem gate_at (x : FVec Ideal S8x2048x2048 .f32) (g : FVec Ideal S1x2048 .f32) (w : FVec Ideal S1x2048x5656 .f32)
    (b : Fin 8) (s : Fin 2048) (h : Fin 2) (l : Fin 128) :
    val_main_v24 (F := Ideal) x g w (ix4 b s h l)
    = if h' : l.val < 12 then ∑ k : Fin 2048, XN x g (ix3 b s k) * w (ix3 0 k ⟨5632 + (h.val * 12 + l.val), by omega⟩) else 0 := by
  rw [val_main_v24]
  pointwise [val_main_v23, val_main_v22, val_main_v15, val_main_v14, val_main_call0_v0, val_main_c]
  split_ifs
  · rfl
  · exact Idealize.ShloMosaic.sitofp_zero

/-- The product of one normalized row with one column of the argument's weight. -/
abbrev DOT (x : FVec Ideal S8x2048x2048 .f32) (g : FVec Ideal S1x2048 .f32) (w : FVec Ideal S1x2048x5656 .f32)
    (r : Fin 16384) (q : Fin 5656) : EReal :=
  ∑ k : Fin 2048, XN x g (ix3 ⟨r.val / 2048, by omega⟩ ⟨r.val % 2048, by omega⟩ k) * w (ix3 0 k q)

open Cert.Reference2Ideal.Read in
/-- One element of the reference's result. -/
theorem ref_at (x : FVec Ideal S8x2048x2048 .f32) (g : FVec Ideal S1x2048 .f32) (w : FVec Ideal S1x2048x5656 .f32)
    (r : Fin 16384) (q : Fin 6144) : REF x g w (ix2 r q)
    = if h : q.val < 1024 then
        if h' : q.val / 64 % 2 < 1 then DOT x g w r ⟨q.val / 128 * 64 + q.val % 64, by omega⟩
        else DOT x g w r ⟨512 + (q.val / 128 * 64 + q.val % 64), by omega⟩
      else if h1 : q.val - 1024 < 4608 then DOT x g w r ⟨1024 + (q.val - 1024), by omega⟩
      else if h2 : q.val - 1024 - 4608 < 256 then
        if h3 : (q.val - 1024 - 4608) % 128 < 12 then
          DOT x g w r ⟨5632 + ((q.val - 1024 - 4608) / 128 * 12 + (q.val - 1024 - 4608) % 128), by omega⟩
        else 0
      else 0 := by
  pointwise [REF, val_main_v29, val_main_v28, val_main_v27, val_main_cst_2, val_main_v26, val_main_v25, val_main_v21, val_main_v20,
    val_main_v19, val_main_v18, val_main_v17, val_main_v16, val_main_v15, val_main_v14]
  simp only [gate_at]

/-- A row's product with one laid-out column is the reference's element there. -/
theorem dot_eq (c : Dev nD) (r : Fin 16384) (q : Fin 6144) :
    (∑ k : Fin 2048, XN (X m c) (G m c) (ix3 ⟨r.val / 2048, by omega⟩ ⟨r.val % 2048, by omega⟩ k)
      * (V m c main_v29 : FVec Ideal S2048x6144 .bf16) (ix2 k q))
    = REF (X m c) (G m c) (W m c) (ix2 r q) := by
  rw [ref_at]
  by_cases h : q.val < 1024
  · rw [dif_pos h]
    have e : ∀ k : Fin 2048, (V m c main_v29 : FVec Ideal S2048x6144 .bf16) (ix2 k q)
        = W m c (ix3 0 k ⟨q.val / 64 / 2 * 64 + q.val / 64 % 2 * 512 + q.val % 64, by omega⟩) := fun k => by
      rw [weight_at, dif_pos h]
      refine Eq.trans (congrArg (QK m c) ?_) (qk_at m c k ⟨q.val / 64, by omega⟩ ⟨q.val % 64, by omega⟩)
      exact congrArg (ix2 k) (Fin.ext (by show q.val = 64 * (q.val / 64) + q.val % 64; omega))
    by_cases h' : q.val / 64 % 2 < 1
    · rw [dif_pos h']
      refine Finset.sum_congr rfl fun k _ => ?_
      rw [e k]
      exact congrArg (XN (X m c) (G m c) _ * W m c ·) (congrArg (ix3 0 k) (Fin.ext (by
        show q.val / 64 / 2 * 64 + q.val / 64 % 2 * 512 + q.val % 64 = q.val / 128 * 64 + q.val % 64; omega)))
    · rw [dif_neg h']
      refine Finset.sum_congr rfl fun k _ => ?_
      rw [e k]
      exact congrArg (XN (X m c) (G m c) _ * W m c ·) (congrArg (ix3 0 k) (Fin.ext (by
        show q.val / 64 / 2 * 64 + q.val / 64 % 2 * 512 + q.val % 64 = 512 + (q.val / 128 * 64 + q.val % 64); omega)))
  · rw [dif_neg h]
    have e : ∀ k : Fin 2048, (V m c main_v29 : FVec Ideal S2048x6144 .bf16) (ix2 k q) = _ := fun k => by
      rw [weight_at, dif_neg h, vg_at]
    simp only [e]
    by_cases h1 : q.val - 1024 < 4608
    · simp only [h1, ↓reduceDIte]
    · simp only [h1, ↓reduceDIte]
      by_cases h2 : q.val - 1024 - 4608 < 12
      · have a : q.val - 1024 - 4608 < 256 := by omega
        have b : (q.val - 1024 - 4608) % 128 < 12 := by omega
        simp only [h2, a, b, ↓reduceDIte]
        refine Finset.sum_congr rfl fun k _ => ?_
        exact congrArg (XN (X m c) (G m c) _ * W m c ·) (congrArg (ix3 0 k) (Fin.ext (by
          show 5632 + (q.val - 1024 - 4608) = 5632 + ((q.val - 1024 - 4608) / 128 * 12 + (q.val - 1024 - 4608) % 128); omega)))
      · simp only [h2, ↓reduceDIte]
        by_cases h3 : q.val - 1024 - 4608 - 12 < 116
        · have b : ¬ (q.val - 1024 - 4608) % 128 < 12 := by omega
          simp only [h3, b, ↓reduceDIte, mul_zero, Finset.sum_const_zero, dite_eq_ite, ite_self]
        · simp only [h3, ↓reduceDIte]
          by_cases h4 : q.val - 1024 - 4608 - 12 - 116 < 12
          · have a : q.val - 1024 - 4608 < 256 := by omega
            have b : (q.val - 1024 - 4608) % 128 < 12 := by omega
            simp only [h4, a, b, ↓reduceDIte]
            refine Finset.sum_congr rfl fun k _ => ?_
            exact congrArg (XN (X m c) (G m c) _ * W m c ·) (congrArg (ix3 0 k) (Fin.ext (by
              show 5644 + (q.val - 1024 - 4608 - 12 - 116)
                = 5632 + ((q.val - 1024 - 4608) / 128 * 12 + (q.val - 1024 - 4608) % 128); omega)))
          · simp only [h4, ↓reduceDIte, mul_zero, Finset.sum_const_zero]
            by_cases a : q.val - 1024 - 4608 < 256
            · have b : ¬ (q.val - 1024 - 4608) % 128 < 12 := by omega
              simp only [a, b, ↓reduceDIte]
            · simp only [a, ↓reduceDIte]

/-- The normalized block of a grid point's rows is the reference's normalized rows there. -/
theorem pay1_eq (c : Dev nD) (t : Fin cfg0.N) (r : Fin 1024) (k : Fin 2048) :
    k0_pay1 (F := Ideal) (iblk m c 0 t) (iblk m c 1 t) (ix2 r k)
    = XN (X m c) (G m c) (ix3 ⟨(t.val / 6 * 1024 + r.val) / 2048, by have := t.isLt; have : cfg0.N = 96 := N_0; omega⟩
        ⟨(t.val / 6 * 1024 + r.val) % 2048, by omega⟩ k) := by
  have hN : cfg0.N = 96 := N_0
  have ht := t.isLt
  have e0 : ∀ k : Fin 2048, (iblk m c 0 t : FVec Ideal S1024x2048 .f32) (ix2 r k)
      = (V m c main_v0 : FVec Ideal S16384x2048 .f32) (ix2 ⟨t.val / 6 * 1024 + r.val, by omega⟩ k) := fun k => by
    blk_ext! [iblk, idx t]
  have e : ∀ k : Fin 2048, (iblk m c 0 t : FVec Ideal S1024x2048 .f32) (ix2 r k)
      = X m c (ix3 ⟨(t.val / 6 * 1024 + r.val) / 2048, by omega⟩ ⟨(t.val / 6 * 1024 + r.val) % 2048, by omega⟩ k) :=
    fun k => (e0 k).trans (rows_at m c _ k)
  have e1 : (iblk m c 1 t : FVec Ideal S1x2048 .f32) (ix2 0 k) = (V m c main_v2 : FVec Ideal S1x2048 .f32) (ix2 0 k) := by
    blk_ext! [iblk, idx t]
  rw [pay1_at, xn_at]
  simp only [e]
  rw [e1, gain_at]

/-- The scratch after each grid point: the reference's normalized rows of the point's row block. -/
theorem scratch_eq (c : Dev nD) (n : Nat) (h : n < cfg0.N) (r : Fin 1024) (k : Fin 2048) :
    ((outsAt0 m c n h).2 : FVec Ideal S1024x2048 .bf16) (ix2 r k)
    = XN (X m c) (G m c) (ix3 ⟨(n / 6 * 1024 + r.val) / 2048, by have : cfg0.N = 96 := N_0; omega⟩
        ⟨(n / 6 * 1024 + r.val) % 2048, by omega⟩ k) := by
  have hN : cfg0.N = 96 := N_0
  induction n with
  | zero =>
    rw [outsAt0_A m c ⟨0, h⟩ rfl]
    frame_out
    exact pay1_eq m c ⟨0, h⟩ r k
  | succ n ih =>
    by_cases h0 : (n + 1) % 6 = 0
    · rw [outsAt0_A m c ⟨n + 1, h⟩ h0]
      frame_out
      exact pay1_eq m c ⟨n + 1, h⟩ r k
    · rw [outsAt0_B m c ⟨n + 1, h⟩ h0]
      frame_out
      refine (ih (by omega)).trans ?_
      have e : (n + 1) / 6 = n / 6 := by omega
      simp only [e]

/-- One element of the block that a grid point stores, whatever scratch it multiplies. -/
theorem point_eq (c : Dev nD) (t : Fin cfg0.N) (a : FVec Ideal S1024x2048 .bf16)
    (ha : ∀ (r : Fin 1024) (k : Fin 2048), a (ix2 r k)
      = XN (X m c) (G m c) (ix3 ⟨(t.val / 6 * 1024 + r.val) / 2048, by have := t.isLt; have : cfg0.N = 96 := N_0; omega⟩
        ⟨(t.val / 6 * 1024 + r.val) % 2048, by omega⟩ k)) (y : S1024x1024.Idx) :
    k0_pay2 a (iblk m c 2 t) y = REF (X m c) (G m c) (W m c) (((cfg0.win 3).blk t).view.emb y) := by
  have hN : cfg0.N = 96 := N_0
  have ht := t.isLt
  idx_vars y
  have e2 : ∀ k : Fin 2048, (iblk m c 2 t : FVec Ideal S2048x1024 .bf16) (ix2 k y1)
      = (V m c main_v29 : FVec Ideal S2048x6144 .bf16) (ix2 k ⟨t.val % 6 * 1024 + y1.val, by omega⟩) := fun k => by
    blk_ext! [iblk, idx t]
  have e3 : (((cfg0.win 3).blk t).view.emb (ix2 y0 y1) : S16384x6144.Idx)
      = ix2 ⟨t.val / 6 * 1024 + y0.val, by omega⟩ ⟨t.val % 6 * 1024 + y1.val, by omega⟩ := by
    blk_ext [idx t]
  rw [e3, ← dot_eq, pay2_at]
  exact Finset.sum_congr rfl fun k _ => by rw [ha, e2]

set_option maxHeartbeats 1600000 in
/-- The launch's result array is the reference's result. -/
theorem final3 (c : Dev nD) : (dats m 0 c).arrAt 3 (cfgs 0).N = REF (X m c) (G m c) (W m c) := by
  refine (dats m 0 c).arrAt_eq_of_covers 3 _ (by decide +kernel) fun t _ y => ?_
  blk_simp
  rw [after0_3]
  by_cases h0 : t.val % 6 = 0
  · rw [outsAt0_A m c t h0]
    frame_out
    exact point_eq m c t _ (fun r k => pay1_eq m c t r k) y
  · rw [outsAt0_B m c t h0]
    frame_out
    refine (congrArg (fun a => k0_pay2 (F := Ideal) a (iblk m c 2 t) y) (Memref.IsWhole.read_unread _ _)).trans ?_
    refine point_eq m c t _ (fun r k => (scratch_eq m c (t.val - 1) _ r k).trans ?_) y
    have e : (t.val - 1) / 6 = t.val / 6 := by omega
    simp only [e]

end Cert.Proof.InProj

end
-- ==== Proof.OutProj.lean ====
/- The output projection's result arrays, block by block: each is the reference's own term of the arguments. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.OutProj

open Cert.Kernel3Ideal Cert.Kernel3Ideal.Gen

variable (m : (ℓ : Loc nD τ sig) → Buf (Elt Ideal) ℓ)

/-- The reference's first result (the residual stream after the block), over the argument arrays. -/
abbrev H1 (x : FVec Ideal S8x2048x2048 .f32) (r n : FVec Ideal S16384x1024 .bf16) (w : FVec Ideal S1x2048x2048 .f32) :
    FVec Ideal S16384x2048 .f32 := Cert.Reference3Ideal.Read.val_main_v6 (F := Ideal) x r n w

/-- The reference's second result (its normalized form), over the argument arrays. -/
abbrev XN (x : FVec Ideal S8x2048x2048 .f32) (r n : FVec Ideal S16384x1024 .bf16) (w : FVec Ideal S1x2048x2048 .f32)
    (g : FVec Ideal S1x2048 .f32) : FVec Ideal S16384x2048 .f32 := Cert.Reference3Ideal.Read.val_main_v20 (F := Ideal) x r n w g

/-- Where each window's block sits at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] :=
  (by decide +kernel : ∀ t : Fin grid0.N, _)

/-- One element of the first stored block, over any blocks. -/
theorem pay1_at (x0 : FVec Ideal S256x2048 .f32) (x1 : FVec Ideal S256x1024 .bf16) (x3 : FVec Ideal S1024x2048 .bf16)
    (x2 : FVec Ideal S256x1024 .bf16) (x4 : FVec Ideal S1024x2048 .bf16) (r : Fin 256) (q : Fin 2048) :
    k0_pay1 x0 x1 x3 x2 x4 (ix2 r q)
    = x0 (ix2 r q) + (∑ k : Fin 1024, x1 (ix2 r k) * x3 (ix2 k q)) + ∑ k : Fin 1024, x2 (ix2 r k) * x4 (ix2 k q) := by
  pointwise [k0_pay1]

open Cert.Reference3Ideal.Read in
/-- One element of the reference's first result. -/
theorem h1_at (x : FVec Ideal S8x2048x2048 .f32) (a n : FVec Ideal S16384x1024 .bf16) (w : FVec Ideal S1x2048x2048 .f32)
    (r : Fin 16384) (q : Fin 2048) :
    H1 x a n w (ix2 r q)
    = x (ix3 ⟨r.val / 2048, by omega⟩ ⟨r.val % 2048, by omega⟩ q) + (∑ k : Fin 1024, a (ix2 r k) * w (ix3 0 ⟨k.val, by omega⟩ q))
      + ∑ k : Fin 1024, n (ix2 r k) * w (ix3 0 ⟨1024 + k.val, by omega⟩ q) := by
  pointwise [val_main_v6, val_main_v5, val_main_v4, val_main_v3, val_main_v2, val_main_v1, val_main_v0]
  exact (add_assoc _ _ _).symm

/-- One element of the second stored block, over the first one. -/
theorem pay2_at (x0 : FVec Ideal S256x2048 .f32) (x1 : FVec Ideal S256x1024 .bf16) (x3 : FVec Ideal S1024x2048 .bf16)
    (x2 : FVec Ideal S256x1024 .bf16) (x4 : FVec Ideal S1024x2048 .bf16) (x5 : FVec Ideal S1x2048 .f32) (r : Fin 256) (q : Fin 2048) :
    k0_pay2 x0 x1 x3 x2 x4 x5 (ix2 r q)
    = k0_pay1 (F := Ideal) x0 x1 x3 x2 x4 (ix2 r q) * Ideal.rsqrt (Ideal.div (∑ k : Fin 2048, k0_pay1 (F := Ideal) x0 x1 x3 x2 x4 (ix2 r k) * k0_pay1 (F := Ideal) x0 x1 x3 x2 x4 (ix2 r k))
        (Ideal.ofBits .f32 0x45000000#32) + Ideal.ofBits .f32 0x358637BD#32) * x5 (ix2 0 q) := by
  pointwise [k0_pay2]

open Cert.Reference3Ideal.Read in
/-- One element of the reference's second result, over its first one. -/
theorem xn_at (x : FVec Ideal S8x2048x2048 .f32) (a n : FVec Ideal S16384x1024 .bf16) (w : FVec Ideal S1x2048x2048 .f32)
    (g : FVec Ideal S1x2048 .f32) (r : Fin 16384) (q : Fin 2048) :
    XN x a n w g (ix2 r q)
    = H1 x a n w (ix2 r q) * Ideal.rsqrt (Ideal.div (∑ k : Fin 2048, H1 x a n w (ix2 r k) * H1 x a n w (ix2 r k))
        (Ideal.ofBits .f32 0x45000000#32) + Ideal.ofBits .f32 0x358637BD#32) * g (ix2 0 q) := by
  pointwise [XN, val_main_v20, val_main_v19, val_main_v18, val_main_v17, val_main_v16, val_main_v15, val_main_v14,
    val_main_v13, val_main_v12, val_main_cst_1, val_main_v11, val_main_v10, val_main_cst_0, val_main_v9, val_main_v8, val_main_cst, val_main_v7]

/-- Block row `r` of point `t`'s blocks is row `256 t + r` of the arrays. -/
theorem pay1_eq (c : Dev nD) (t : Fin cfg0.N) (r : Fin 256) (q : Fin 2048) :
    k0_pay1 (iblk m c 0 t) (iblk m c 1 t) (iblk m c 3 t) (iblk m c 2 t) (iblk m c 4 t) (ix2 r q)
    = H1 (m ((c : Thread nD τ).loc main_arg0)) (m ((c : Thread nD τ).loc main_arg1)) (m ((c : Thread nD τ).loc main_arg2))
        (m ((c : Thread nD τ).loc main_arg3)) (ix2 ⟨t.val * 256 + r.val, by have := t.isLt; have : cfg0.N = 64 := N_0; omega⟩ q) := by
  rw [pay1_at, h1_at]
  blk_point [iblk, idx t]

/-- One element of the first result's block. -/
theorem point6 (c : Dev nD) (t : Fin cfg0.N) (y) :
    k0_pay1 (iblk m c 0 t) (iblk m c 1 t) (iblk m c 3 t) (iblk m c 2 t) (iblk m c 4 t) y
    = H1 (m ((c : Thread nD τ).loc main_arg0)) (m ((c : Thread nD τ).loc main_arg1)) (m ((c : Thread nD τ).loc main_arg2))
        (m ((c : Thread nD τ).loc main_arg3)) (((cfg0.win 6).blk t).view.emb y) := by
  idx_vars y
  refine (pay1_eq m c t y0 y1).trans (congrArg _ ?_)
  blk_ext [idx t]

/-- One element of the second result's block. -/
theorem point7 (c : Dev nD) (t : Fin cfg0.N) (y) :
    k0_pay2 (iblk m c 0 t) (iblk m c 1 t) (iblk m c 3 t) (iblk m c 2 t) (iblk m c 4 t) (iblk m c 5 t) y
    = XN (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb y) := by
  idx_vars y
  have e : ((cfg0.win 7).blk t).view.emb (ix2 y0 y1)
      = (ix2 ⟨t.val * 256 + y0.val, by have := t.isLt; have : cfg0.N = 64 := N_0; omega⟩ y1 : S16384x2048.Idx) := by blk_ext [idx t]
  have eg : (iblk m c 5 t : FVec Ideal S1x2048 .f32) (ix2 0 y1) = (m ((c : Thread nD τ).loc main_arg4) : FVec Ideal S1x2048 .f32) (ix2 0 y1) := by
    blk_ext! [iblk, idx t]
  rw [e, pay2_at, xn_at, eg]
  simp only [pay1_eq]

/-- The first result array after the run. -/
theorem final6 (c : Dev nD) : (dats m 0 c).arrAt 6 (cfgs 0).N
    = H1 (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]; frame_out
  exact point6 m c t y

/-- The second result array after the run. -/
theorem final7 (c : Dev nD) : (dats m 0 c).arrAt 7 (cfgs 0).N
    = XN (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]; frame_out
  exact point7 m c t y

end Cert.Proof.OutProj

end
-- ==== Proof.Claims.lean ====
/- The value claims of the two projections, from their result arrays. -/
module

public import proofs.«01_k».proof.Defs
public import proofs.«01_k».proof.Proof.InProj
public import proofs.«01_k».proof.Proof.OutProj
public import proofs.«01_k».proof.Proof.Gen.Reference2Ideal.Run
public import proofs.«01_k».proof.Proof.Gen.Reference3Ideal.Run

@[expose] public section

set_option maxRecDepth 16384

noncomputable section

open Idealize.ShloMosaic Idealize.ShloMosaic.TcCoe Idealize.SL.Sem

namespace Cert.Proof

/-- The input projection's kernel and its reference compute the same array. -/
theorem inproj : Cert.algebraic_Kernel2Ideal_Reference2Ideal := by
  pair_intro
  · run_from Cert.Kernel2Ideal.Gen.run_main m g
  · run_from Cert.Reference2Ideal.Value.run m' g'
    refine (Cert.Reference2Ideal.Read.val_main_v29_eq m' c).trans ?_
    rw [(hagree c).1, (hagree c).2.1, (hagree c).2.2]
    exact (InProj.final3 m c).symm

/-- The output projection's kernel and its reference compute the same two arrays. -/
theorem outproj : Cert.algebraic_Kernel3Ideal_Reference3Ideal := by
  pair_intro
  · run_from Cert.Kernel3Ideal.Gen.run_main m g
  · run_from Cert.Reference3Ideal.Value.run m' g'
    · refine (Cert.Reference3Ideal.Read.val_main_v6_eq (F := Ideal) _ _ _ _).symm.trans ?_
      rw [(hagree c).2.1, (hagree c).2.2.1]
      exact (OutProj.final6 m c).symm
    · refine (Cert.Reference3Ideal.Read.val_main_v20_eq (F := Ideal) _ _ _ _ _).symm.trans ?_
      rw [(hagree c).2.1, (hagree c).2.2.1]
      exact (OutProj.final7 m c).symm

end Cert.Proof

end
-- ==== Proof.RetBlock.lean ====
module

public import Idealize.ShloMosaic.Lib.Pipeline.ValueKit
public import Idealize.ShloMosaic.Lib.Pointwise
public import Idealize.ShloMosaic.Lib.WholeRead
public import proofs.«01_k».proof.Proof.Gen.KernelIdeal.Value

/-!
  One block of the retention launch, as a recurrence over its sixteen chunks of 128 rows: the state that a chunk
  finds (`kst`) and the rows that it stores (`kout`), both in terms of the block's ten input blocks.
-/

@[expose] public section

set_option maxRecDepth 16384

noncomputable section

namespace Cert.Proof.Retention

open Idealize.ShloMosaic Idealize.ShloMosaic.TcCoe Idealize.SL.Sem
open Cert.KernelIdeal Cert.KernelIdeal.Gen

variable {F : FTy → Type} [FloatOps F]

/-- Rows 128·c … 128·c + 127 of a slab. -/
def chunk (x : Vec F S2048x128 .f32) (c : ℕ) : FVec F S128x128 .f32 :=
  fun j => x (ix2 ⟨(128 * c + (j 0).val) % 2048, Nat.mod_lt _ (by decide)⟩ ⟨(j 1).val, (j 1).isLt⟩)

section Block

variable (x0 x1 x2 x3 x4 : Vec F S2048x128 .f32) (x5 x6 x7 x8 : Vec F S1x128x128 .f32) (x9 : Vec F S1x128 .f32)

/-- The state that chunk `c` finds. -/
def kst : ℕ → FVec F S128x128 .f32
  | 0 => k0_pay6
  | c + 1 => k0_pay8 x8 (kst c)
      (k0_pay11 k0_pay1 (k0_pay5 x7) (chunk x0 c) (chunk x3 c) (chunk x4 c) (chunk x1 c))

/-- The rows that chunk `c` stores. -/
def kout (c : ℕ) : FVec F S128x128 .bf16 :=
  k0_pay7 x9
    (k0_pay12 k0_pay1 k0_pay2 (k0_pay3 x5) (k0_pay4 x6) (kst x0 x1 x3 x4 x7 x8 c) (chunk x0 c) (chunk x3 c) (chunk x4 c) (chunk x1 c))
    (k0_pay13 k0_pay1 k0_pay2 (k0_pay3 x5) (k0_pay4 x6) (kst x0 x1 x3 x4 x7 x8 c) (chunk x0 c) (chunk x3 c) (chunk x4 c) (chunk x1 c))
    (chunk x2 c)

/-- The whole stored block, row by row. -/
def kblk (y : S2048x128.Idx) : Elt F .bf16 :=
  kout x0 x1 x2 x3 x4 x5 x6 x7 x8 x9 ((y 0).val / 128)
    (ix2 ⟨(y 0).val % 128, Nat.mod_lt _ (by decide)⟩ ⟨(y 1).val, (y 1).isLt⟩)

end Block

/-- A load of a trip's rows reads the chunk. -/
theorem load_chunk (a : Memref sig .tc .vmem S2048x128 .f32) (ha : a.IsWhole) (x : Vec F S2048x128 .f32)
    (k : Fin k0_t1_loop.trips) (h) :
    View.readAt (Elt F) a.view (Rect.unit (s := S2048x128) (k0_off1 k) ![128, 128] h).toLoadRect (ha.unread x) = chunk x k.val := by
  have hk : k.val < 16 := Nat.lt_of_lt_of_le k.isLt k0_t1_abs.2.1
  funext j
  refine (Memref.IsWhole.readAt_unread ha x _ j).trans ?_
  refine congrArg x (funext fun a => Fin.ext ?_)
  have e := k0_off1_eq k
  have e0 : k0_off1 k 0 = 128 * k.val := congrFun e 0
  have e1 : k0_off1 k 1 = 0 := congrFun e 1
  have h0 : (j 0).val < 128 := (j 0).isLt
  fin_cases a
  · show k0_off1 k 0 + 1 * (j 0).val = (128 * k.val + (j 0).val) % 2048
    omega
  · show k0_off1 k 1 + 1 * (j 1).val = (j 1).val
    omega

/-- A load of a whole 1×128×128 block reads it. -/
theorem load_wide (a : Memref sig .tc .vmem S1x128x128 .f32) (ha : a.IsWhole) (x : Vec F S1x128x128 .f32) (h) :
    View.readAt (Elt F) a.view (Rect.unit (s := S1x128x128) ![0, 0, 0] ![1, 128, 128] h).toLoadRect (ha.unread x) = x := by
  funext j
  refine (Memref.IsWhole.readAt_unread ha x _ j).trans ?_
  refine congrArg x (funext fun a => Fin.ext ?_)
  fin_cases a
  · show 0 + 1 * (j 0).val = (j 0).val
    omega
  · show 0 + 1 * (j 1).val = (j 1).val
    omega
  · show 0 + 1 * (j 2).val = (j 2).val
    omega

/-- A load of a whole 1×128 block reads it. -/
theorem load_row (a : Memref sig .tc .vmem S1x128 .f32) (ha : a.IsWhole) (x : Vec F S1x128 .f32) (h) :
    View.readAt (Elt F) a.view (Rect.unit (s := S1x128) ![0, 0] ![1, 128] h).toLoadRect (ha.unread x) = x := by
  funext j
  refine (Memref.IsWhole.readAt_unread ha x _ j).trans ?_
  refine congrArg x (funext fun a => Fin.ext ?_)
  fin_cases a
  · show 0 + 1 * (j 0).val = (j 0).val
    omega
  · show 0 + 1 * (j 1).val = (j 1).val
    omega

/-- The stored block at an element of a trip's rectangle is what that trip stores. -/
theorem kblk_emb (x0 x1 x2 x3 x4 : Vec F S2048x128 .f32) (x5 x6 x7 x8 : Vec F S1x128x128 .f32) (x9 : Vec F S1x128 .f32)
    (k : Fin k0_t1_loop.trips) (x : S128x128.Idx) (h) :
    kblk x0 x1 x2 x3 x4 x5 x6 x7 x8 x9 ((Rect.unit (s := S2048x128) (k0_off1 k) ![128, 128] h).emb x)
    = kout x0 x1 x2 x3 x4 x5 x6 x7 x8 x9 k.val x := by
  have e := k0_off1_eq k
  have e0 : k0_off1 k 0 = 128 * k.val := congrFun e 0
  have e1 : k0_off1 k 1 = 0 := congrFun e 1
  have h0 : (x 0).val < 128 := (x 0).isLt
  have r0 : ((Rect.unit (s := S2048x128) (k0_off1 k) ![128, 128] h).emb x 0).val = k0_off1 k 0 + 1 * (x 0).val := rfl
  have r1 : ((Rect.unit (s := S2048x128) (k0_off1 k) ![128, 128] h).emb x 1).val = k0_off1 k 1 + 1 * (x 1).val := rfl
  unfold kblk
  have q : ((Rect.unit (s := S2048x128) (k0_off1 k) ![128, 128] h).emb x 0).val / 128 = k.val := by omega
  rw [q]
  refine congrArg _ (funext fun a => Fin.ext ?_)
  fin_cases a
  · show ((Rect.unit (s := S2048x128) (k0_off1 k) ![128, 128] h).emb x 0).val % 128 = (x 0).val
    omega
  · show ((Rect.unit (s := S2048x128) (k0_off1 k) ![128, 128] h).emb x 1).val = (x 1).val
    omega

variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128 .f32) (harg11 : arg11.IsWhole) (arg12 : Memref sig .tc .vmem S2048x128 .bf16) (harg12 : arg12.IsWhole)
variable (x0 x1 x2 x3 x4 : Vec F S2048x128 .f32) (x5 x6 x7 x8 : Vec F S1x128x128 .f32) (x9 : Vec F S1x128 .f32)

/-- What a trip yields. -/
theorem trip_yield (v10 v12 v14 v16 v18) (k : Fin k0_t1_loop.trips) (acc : FVec F S128x128 .f32) :
    tripR_k0_t1 (F := F) Variants.none c none i arg2 harg2 arg3 harg3 arg4 harg4 arg5 harg5 arg6 harg6 arg7 harg7 arg8 harg8 arg9 harg9 arg10 harg10 arg11 harg11 arg12 harg12 v10 v12 v14 v16 v18
      (harg2.unread x0) (harg3.unread x1) (harg4.unread x2) (harg5.unread x3) (harg6.unread x4) k acc
    = k0_pay8 v16 acc (k0_pay11 k0_pay1 (k0_pay5 v14) (chunk x0 k) (chunk x3 k) (chunk x4 k) (chunk x1 k)) := by
  unfold tripR_k0_t1 trip_k0_t1
  dsimp only
  unfold trip_k0_t1.sl.r
  rw [← load_chunk arg2 harg2 x0 k (k0_off1_inb k), ← load_chunk arg5 harg5 x3 k (k0_off1_inb k),
    ← load_chunk arg6 harg6 x4 k (k0_off1_inb k), ← load_chunk arg3 harg3 x1 k (k0_off1_inb k)]

/-- What a trip stores. -/
theorem trip_store (v10 v12 v14 v16 v18) (k : Fin k0_t1_loop.trips) (acc : FVec F S128x128 .f32) :
    tripL_k0_t1 (F := F) Variants.none c none i arg2 harg2 arg3 harg3 arg4 harg4 arg5 harg5 arg6 harg6 arg7 harg7 arg8 harg8 arg9 harg9 arg10 harg10 arg11 harg11 arg12 harg12 v10 v12 v14 v16 v18
      (harg2.unread x0) (harg3.unread x1) (harg4.unread x2) (harg5.unread x3) (harg6.unread x4) k acc
    = [⟨Rect.unit (s := S2048x128) (k0_off1 k) ![128, 128] (k0_off1_inb k),
        k0_pay7 v18
          (k0_pay12 k0_pay1 k0_pay2 (k0_pay3 v10) (k0_pay4 v12) acc (chunk x0 k) (chunk x3 k) (chunk x4 k) (chunk x1 k))
          (k0_pay13 k0_pay1 k0_pay2 (k0_pay3 v10) (k0_pay4 v12) acc (chunk x0 k) (chunk x3 k) (chunk x4 k) (chunk x1 k))
          (chunk x2 k)⟩] := by
  unfold tripL_k0_t1 trip_k0_t1
  dsimp only
  unfold trip_k0_t1.sl.r_1 trip_k0_t1.sl.r_2
  rw [← load_chunk arg2 harg2 x0 k (k0_off1_inb k), ← load_chunk arg5 harg5 x3 k (k0_off1_inb k),
    ← load_chunk arg6 harg6 x4 k (k0_off1_inb k), ← load_chunk arg3 harg3 x1 k (k0_off1_inb k),
    ← load_chunk arg4 harg4 x2 k (k0_off1_inb k)]

/-- The loop's carried value and piece list before trip `n`. -/
theorem loop_eq (v10 v12 v14 v16 v18) (n : ℕ) (hn : n ≤ 16) :
    (st_k0_t1 (F := F) Variants.none c none i arg2 harg2 arg3 harg3 arg4 harg4 arg5 harg5 arg6 harg6 arg7 harg7 arg8 harg8 arg9 harg9 arg10 harg10 arg11 harg11 arg12 harg12 v10 v12 v14 v16 v18
      (harg2.unread x0) (harg3.unread x1) (harg4.unread x2) (harg5.unread x3) (harg6.unread x4) k0_pay6 n).1
      = kst x0 x1 x3 x4 v14 v16 n
    ∧ ∀ p ∈ (st_k0_t1 (F := F) Variants.none c none i arg2 harg2 arg3 harg3 arg4 harg4 arg5 harg5 arg6 harg6 arg7 harg7 arg8 harg8 arg9 harg9 arg10 harg10 arg11 harg11 arg12 harg12 v10 v12 v14 v16 v18
      (harg2.unread x0) (harg3.unread x1) (harg4.unread x2) (harg5.unread x3) (harg6.unread x4) k0_pay6 n).2,
        ∀ x, p.2 x = kblk x0 x1 x2 x3 x4 v10 v12 v14 v16 v18 (p.1.emb x) := by
  induction n with
  | zero => exact ⟨rfl, fun p hp => absurd hp List.not_mem_nil⟩
  | succ n ih =>
    obtain ⟨e1, e2⟩ := ih (by omega)
    have hk : n < k0_t1_loop.trips := Nat.lt_of_lt_of_eq (by omega : n < 16) (by decide +kernel)
    have hs := st_k0_t1_succ (F := F) Variants.none c none i arg2 harg2 arg3 harg3 arg4 harg4 arg5 harg5 arg6 harg6 arg7 harg7 arg8 harg8 arg9 harg9 arg10 harg10 arg11 harg11 arg12 harg12 v10 v12 v14 v16 v18
      (harg2.unread x0) (harg3.unread x1) (harg4.unread x2) (harg5.unread x3) (harg6.unread x4) k0_pay6 ⟨n, hk⟩
    dsimp only at hs
    rw [e1, trip_yield, trip_store] at hs
    rw [hs]
    refine ⟨rfl, fun p hp x => ?_⟩
    rcases List.mem_cons.mp hp with rfl | hp
    · exact (kblk_emb x0 x1 x2 x3 x4 v10 v12 v14 v16 v18 ⟨n, hk⟩ x (k0_off1_inb ⟨n, hk⟩)).symm
    · exact e2 p hp x

/-- What a grid point leaves in the output block. -/
theorem out_eq (y : S2048x128.Idx) :
    out0_A_10 (F := F) c i arg2 harg2 arg3 harg3 arg4 harg4 arg5 harg5 arg6 harg6 arg7 harg7 arg8 harg8 arg9 harg9 arg10 harg10 arg11 harg11 arg12 harg12 x0 x1 x2 x3 x4 x5 x6 x7 x8 x9 y = kblk x0 x1 x2 x3 x4 x5 x6 x7 x8 x9 y := by
  unfold out0_A_10
  refine View.read_writes_apply_of_pieces _ _ (kblk x0 x1 x2 x3 x4 x5 x6 x7 x8 x9) _ ?_ y (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 y)
  unfold kernelRun0_A
  dsimp only
  rw [load_wide arg7, load_wide arg8, load_wide arg9, load_wide arg10, load_row]
  exact (loop_eq (F := F) c i arg2 harg2 arg3 harg3 arg4 harg4 arg5 harg5 arg6 harg6 arg7 harg7 arg8 harg8 arg9 harg9 arg10 harg10 arg11 harg11 arg12 harg12 x0 x1 x2 x3 x4 x5 x6 x7 x8 x9 16 (by omega)).2

end Cert.Proof.Retention

end
-- ==== Proof.RetPay.lean ====
module

public import Idealize.ShloMosaic.Lib.KernelVsHost
public import proofs.«01_k».proof.Proof.RetBlock

/-!
  One chunk of the retention at an element: the rotated queries and keys, the carried state, and the stored rows, as
  sums over the 64 key lanes and the 128 rows of the chunk.
-/

@[expose] public section

set_option maxRecDepth 16384

noncomputable section

namespace Cert.Proof.Retention

open Idealize.ShloMosaic Idealize.ShloMosaic.TcCoe Idealize.SL.Sem
open Cert.KernelIdeal Cert.KernelIdeal.Gen

/-- The mask: the first half of each 64 lanes. -/
theorem pay1_at (r l : Fin 128) : k0_pay1 (ix2 r l) = if l.val % 64 < 32 then 1#1 else 0#1 := by
  pointwise [k0_pay1]
  revert l
  decide +kernel

/-- The query factor: 1/8 on the query lanes, zero on the others. -/
theorem pay2_at (r l : Fin 128) : k0_pay2 (F := Ideal) (ix2 r l)
    = if l.val < 64 then Ideal.ofBits .f32 0x3E000000#32 else 0 := by
  pointwise [k0_pay2]
  have h : IntOp.cmpi CmpIPredicate.slt (BitVec.ofNat 32 l.val) 64#32 = if l.val < 64 then 1#1 else 0#1 := by
    revert l
    decide +kernel
  rw [h]
  split <;> simp [Scalar.select]

/-- The rotation of a row: each lane against its partner in the other half of its 64 lanes. -/
theorem pay9_at (z co si : FVec Ideal S128x128 .f32) (r l : Fin 128) :
    k0_pay9 (F := Ideal) k0_pay1 z co si (ix2 r l)
    = z (ix2 r l) * co (ix2 r l)
      + (if l.val % 64 < 32 then z (ix2 r ⟨(l.val + 32) % 128, Nat.mod_lt _ (by decide)⟩)
          else z (ix2 r ⟨(l.val + 96) % 128, Nat.mod_lt _ (by decide)⟩)) * si (ix2 r l) := by
  have h := pay1_at r l
  generalize k0_pay1 = w at h ⊢
  pointwise [k0_pay9]
  rw [h]
  have e1 : (l.val + 128 - 96) % 128 = (l.val + 32) % 128 := by omega
  have e2 : (l.val + 128 - 32) % 128 = (l.val + 96) % 128 := by omega
  simp only [e1, e2]
  split <;> simp [Scalar.select]

theorem pay10_at (w) (z co si : FVec Ideal S128x128 .f32) (r l : Fin 128) :
    k0_pay10 (F := Ideal) w z co si (ix2 r l)
    = k0_pay9 (F := Ideal) w z co si (ix2 r ⟨(l.val + 64) % 128, Nat.mod_lt _ (by decide)⟩) := by
  unfold k0_pay10
  generalize k0_pay9 (F := Ideal) w z co si = a
  pointwise []
  have e1 : (l.val + 128 - 64) % 128 = (l.val + 64) % 128 := by omega
  simp only [e1]

/-- What a chunk adds to the state. -/
theorem pay11_at (w) (ze z co si v : FVec Ideal S128x128 .f32) (d e : Fin 128) :
    k0_pay11 (F := Ideal) w ze z co si v (ix2 d e)
    = ∑ m : Fin 128, k0_pay10 (F := Ideal) w z co si (ix2 m d) * ze (ix2 m d) * v (ix2 m e) := by
  unfold k0_pay11
  generalize k0_pay10 (F := Ideal) w z co si = a
  pointwise []

theorem pay8_at (de : FVec Ideal S1x128x128 .f32) (s k : FVec Ideal S128x128 .f32) (d e : Fin 128) :
    k0_pay8 (F := Ideal) de s k (ix2 d e) = s (ix2 d e) * de (ix3 0 d e) + k (ix2 d e) := by
  pointwise [k0_pay8]

theorem pay3_at (x : FVec Ideal S1x128x128 .f32) (d e : Fin 128) : k0_pay3 (F := Ideal) x (ix2 d e) = x (ix3 0 d e) := by
  pointwise [k0_pay3]
theorem pay4_at (x : FVec Ideal S1x128x128 .f32) (d e : Fin 128) : k0_pay4 (F := Ideal) x (ix2 d e) = x (ix3 0 d e) := by
  pointwise [k0_pay4]
theorem pay5_at (x : FVec Ideal S1x128x128 .f32) (d e : Fin 128) : k0_pay5 (F := Ideal) x (ix2 d e) = x (ix3 0 d e) := by
  pointwise [k0_pay5]

theorem pay7_at (gn : FVec Ideal S1x128 .f32) (y : FVec Ideal S128x128 .f32) (s : FVec Ideal S128x1 .f32)
   (g : FVec Ideal S128x128 .f32) (r e : Fin 128) :
   k0_pay7 (F := Ideal) gn y s g (ix2 r e) = g (ix2 r e) * Ideal.logistic (g (ix2 r e)) * (y (ix2 r e) * s (ix2 r 0) * gn (ix2 0 e)) := by
  pointwise [k0_pay7]

/-- A chunk's rows before the group norm. -/
def yk (w : IVec S128x128 1) (qs dm xi s z co si v : FVec Ideal S128x128 .f32) (r e : Fin 128) : EReal :=
  (∑ m : Fin 128, (∑ l : Fin 128, (k0_pay9 (F := Ideal) w z co si (ix2 r l) * qs (ix2 r l)) * k0_pay10 (F := Ideal) w z co si (ix2 m l))
      * dm (ix2 r m) * v (ix2 m e))
    + ∑ l : Fin 128, (k0_pay9 (F := Ideal) w z co si (ix2 r l) * qs (ix2 r l)) * xi (ix2 r l) * s (ix2 l e)

theorem pay12_at (w) (qs dm xi s z co si v : FVec Ideal S128x128 .f32) (r e : Fin 128) :
    k0_pay12 (F := Ideal) w qs dm xi s z co si v (ix2 r e)
    = yk w qs dm xi s z co si v r e
      - Ideal.div (∑ e' : Fin 128, yk w qs dm xi s z co si v r e') (Ideal.ofBits .f32 0x43000000#32) := by
  unfold k0_pay12 yk
  generalize k0_pay10 (F := Ideal) w z co si = a
  generalize k0_pay9 (F := Ideal) w z co si = b
  pointwise []

theorem pay13_at (w) (qs dm xi s z co si v : FVec Ideal S128x128 .f32) (r : Fin 128) :
    k0_pay13 (F := Ideal) w qs dm xi s z co si v (ix2 r 0)
    = Ideal.rsqrt (Ideal.div (∑ e : Fin 128, k0_pay12 (F := Ideal) w qs dm xi s z co si v (ix2 r e) * k0_pay12 (F := Ideal) w qs dm xi s z co si v (ix2 r e))
         (Ideal.ofBits .f32 0x43000000#32) + Ideal.ofBits .f32 0x358637BD#32) := by
  unfold k0_pay13
  generalize k0_pay12 (F := Ideal) w qs dm xi s z co si v = b
  pointwise []

/-- A sum over 128 lanes whose last 64 terms are zero. -/
theorem sum_lanes (f : Fin 128 → EReal) (h : ∀ l : Fin 128, 64 ≤ l.val → f l = 0) :
    ∑ l : Fin 128, f l = ∑ d : Fin 64, f ⟨d.val, by omega⟩ := by
  refine (Fin.sum_univ_add (a := 64) (b := 64) f).trans ?_
  rw [Finset.sum_eq_zero (s := Finset.univ) (f := fun i : Fin 64 => f (Fin.natAdd 64 i)) fun i _ => h _ (by simp), add_zero]
  rfl

end Cert.Proof.Retention

end
-- ==== Proof.RetRef.lean ====
module

public import Idealize.ShloMosaic.Lib.Pipeline.ValueKit
public import Idealize.ShloMosaic.Lib.Pointwise
public import Idealize.ShloMosaic.Lib.KernelVsHost
public import proofs.«01_k».proof.Proof.Gen.ReferenceIdeal.Read

/-!
  The reference's queries, keys and values at an element, before the rotation and chunk by chunk.
-/

@[expose] public section

set_option maxRecDepth 16384

noncomputable section

namespace Cert.Proof.Retention.Ref

open Idealize.ShloMosaic Idealize.ShloMosaic.TcCoe Idealize.SL.Sem
open Cert.ReferenceIdeal Cert.ReferenceIdeal.Read

/-- Row `n` of chunk `c` of a sequence. -/
abbrev pos (c : Fin 16) (n : Fin 128) : Fin 2048 := ⟨c.val * 128 + n.val, by omega⟩

/-- The row of the projection that holds it. -/
abbrev row (b : Fin 8) (c : Fin 16) (n : Fin 128) : Fin 16384 := ⟨b.val * 2048 + (c.val * 128 + n.val), by omega⟩

/-- One element of the queries before the rotation. -/
theorem v7_at (x : FVec Ideal S16384x6144 .f32) (b : Fin 8) (s : Fin 2048) (h : Fin 8) (d : Fin 64) :
    val_main_v7 (F := Ideal) x (ix4 b s h d) = x (ix2 ⟨b.val * 2048 + s.val, by omega⟩ ⟨h.val * 128 + d.val, by omega⟩) := by
  pointwise [val_main_v7, val_main_v6, val_main_v2, val_main_v1, val_main_v0]

/-- One element of the keys before the rotation. -/
theorem v39_at (x : FVec Ideal S16384x6144 .f32) (b : Fin 8) (s : Fin 2048) (h : Fin 8) (d : Fin 64) :
    val_main_v39 (F := Ideal) x (ix4 b s h d) = x (ix2 ⟨b.val * 2048 + s.val, by omega⟩ ⟨h.val * 128 + 64 + d.val, by omega⟩) := by
  pointwise [val_main_v39, val_main_v38, val_main_v2, val_main_v1, val_main_v0]

/-- One element of the values, chunk by chunk. -/
theorem v83_at (x : FVec Ideal S16384x6144 .f32) (b : Fin 8) (c : Fin 16) (n : Fin 128) (h : Fin 8) (e : Fin 128) :
    val_main_v83 (F := Ideal) x (ix5 b c n h e) = x (ix2 (row b c n) ⟨1024 + (h.val * 128 + e.val), by omega⟩) := by
  pointwise [val_main_v83, val_main_v70, val_main_v3, val_main_v0]

/-- The rotated keys, chunk by chunk. -/
theorem v82_at (x : FVec Ideal S16384x6144 .f32) (b : Fin 8) (c : Fin 16) (n : Fin 128) (h : Fin 8) (d : Fin 64) :
    val_main_v82 (F := Ideal) x (ix5 b c n h d) = val_main_v69 (F := Ideal) x (ix4 b (pos c n) h d) := by
  unfold val_main_v82
  generalize val_main_v69 (F := Ideal) x = y
  pointwise []

/-- The scaled rotated queries, chunk by chunk. -/
theorem v81_at (x : FVec Ideal S16384x6144 .f32) (b : Fin 8) (c : Fin 16) (n : Fin 128) (h : Fin 8) (d : Fin 64) :
    val_main_v81 (F := Ideal) x (ix5 b c n h d) = val_main_v37 (F := Ideal) x (ix4 b (pos c n) h d) * Ideal.ofBits .f32 0x3E000000#32 := by
  unfold val_main_v81 val_main_v72
  generalize val_main_v37 (F := Ideal) x = y
  pointwise [val_main_v71, val_main_cst_5]

end Cert.Proof.Retention.Ref

end
-- ==== Proof.RetRefRot.lean ====
module

public import Idealize.ShloMosaic.Lib.Pipeline.ValueKit
public import Idealize.ShloMosaic.Lib.Pointwise
public import Idealize.ShloMosaic.Lib.KernelVsHost
public import proofs.«01_k».proof.Proof.RetRef

/-!
  The reference's rotation of the queries and the keys at an element.
-/

@[expose] public section

set_option maxRecDepth 16384

noncomputable section

namespace Cert.Proof.Retention.Ref

open Idealize.ShloMosaic Idealize.ShloMosaic.TcCoe Idealize.SL.Sem
open Cert.ReferenceIdeal Cert.ReferenceIdeal.Read

/-- The rotation of the queries. -/
theorem v37_at (x : FVec Ideal S16384x6144 .f32) (b : Fin 8) (s : Fin 2048) (h : Fin 8) (d : Fin 64) :
    val_main_v37 (F := Ideal) x (ix4 b s h d) =
      if hd : d.val < 32 then val_main_v7 (F := Ideal) x (ix4 b s h d) * val_main_v21 (F := Ideal) (ix2 s ⟨d.val, hd⟩)
          - val_main_v7 (F := Ideal) x (ix4 b s h ⟨d.val + 32, by omega⟩) * val_main_v23 (F := Ideal) (ix2 s ⟨d.val, hd⟩)
      else val_main_v7 (F := Ideal) x (ix4 b s h ⟨d.val - 32, by omega⟩) * val_main_v23 (F := Ideal) (ix2 s ⟨d.val - 32, by omega⟩)
          + val_main_v7 (F := Ideal) x (ix4 b s h d) * val_main_v21 (F := Ideal) (ix2 s ⟨d.val - 32, by omega⟩) := by
  unfold val_main_v37 val_main_v36 val_main_v31 val_main_v28 val_main_v30 val_main_v33 val_main_v35 val_main_v25 val_main_v26 val_main_v27 val_main_v29 val_main_v32 val_main_v34 val_main_v22 val_main_v24
  generalize val_main_v7 (F := Ideal) x = y
  generalize val_main_v21 (F := Ideal) = co
  generalize val_main_v23 (F := Ideal) = si
  pointwise []
  split
  · simp only [Nat.add_comm 32]
  · have e : 32 + (d.val - 32) = d.val := by omega
    simp only [e]

/-- The rotation of the keys. -/
theorem v69_at (x : FVec Ideal S16384x6144 .f32) (b : Fin 8) (s : Fin 2048) (h : Fin 8) (d : Fin 64) :
    val_main_v69 (F := Ideal) x (ix4 b s h d) =
      if hd : d.val < 32 then val_main_v39 (F := Ideal) x (ix4 b s h d) * val_main_v53 (F := Ideal) (ix2 s ⟨d.val, hd⟩)
          - val_main_v39 (F := Ideal) x (ix4 b s h ⟨d.val + 32, by omega⟩) * val_main_v55 (F := Ideal) (ix2 s ⟨d.val, hd⟩)
      else val_main_v39 (F := Ideal) x (ix4 b s h ⟨d.val - 32, by omega⟩) * val_main_v55 (F := Ideal) (ix2 s ⟨d.val - 32, by omega⟩)
          + val_main_v39 (F := Ideal) x (ix4 b s h d) * val_main_v53 (F := Ideal) (ix2 s ⟨d.val - 32, by omega⟩) := by
  unfold val_main_v69 val_main_v68 val_main_v63 val_main_v60 val_main_v62 val_main_v65 val_main_v67 val_main_v57 val_main_v58 val_main_v59 val_main_v61 val_main_v64 val_main_v66 val_main_v54 val_main_v56
  generalize val_main_v39 (F := Ideal) x = y
  generalize val_main_v53 (F := Ideal) = co
  generalize val_main_v55 (F := Ideal) = si
  pointwise []
  split
  · simp only [Nat.add_comm 32]
  · have e : 32 + (d.val - 32) = d.val := by omega
    simp only [e]

end Cert.Proof.Retention.Ref

end
-- ==== Proof.RetRefSum.lean ====
module

public import Idealize.ShloMosaic.Lib.Pipeline.ValueKit
public import Idealize.ShloMosaic.Lib.Pointwise
public import Idealize.ShloMosaic.Lib.KernelVsHost
public import proofs.«01_k».proof.Proof.RetRef

/-!
  The reference's chunk sums: what a chunk adds to the state, and its rows before the group norm.
-/

@[expose] public section

set_option maxRecDepth 16384

noncomputable section

namespace Cert.Proof.Retention.Ref

open Idealize.ShloMosaic Idealize.ShloMosaic.TcCoe Idealize.SL.Sem
open Cert.ReferenceIdeal Cert.ReferenceIdeal.Read

/-- What a chunk adds to the state. -/
theorem v127_at (x : FVec Ideal S16384x6144 .f32) (b : Fin 8) (c : Fin 16) (h : Fin 8) (d : Fin 64) (e : Fin 128) :
    val_main_v127 (F := Ideal) x (ix5 b c h d e) = ∑ m : Fin 128, val_main_v82 (F := Ideal) x (ix5 b c m h d)
      * val_main_v114 (F := Ideal) (ix2 h m) * val_main_v83 (F := Ideal) x (ix5 b c m h e) := by
  unfold val_main_v127 val_main_v126 val_main_v125 val_main_v124 val_main_v123
  generalize val_main_v82 (F := Ideal) x = y
  generalize val_main_v83 (F := Ideal) x = v
  generalize val_main_v114 (F := Ideal) = ze
  pointwise []

/-- A chunk's rows before the group norm. -/
theorem v236_at (x : FVec Ideal S16384x6144 .f32) (b : Fin 8) (c : Fin 16) (n : Fin 128) (h : Fin 8) (e : Fin 128) :
    val_main_v236 (F := Ideal) x (ix5 b c n h e)
    = (∑ m : Fin 128, val_main_v83 (F := Ideal) x (ix5 b c m h e)
        * ((∑ d : Fin 64, val_main_v81 (F := Ideal) x (ix5 b c n h d) * val_main_v82 (F := Ideal) x (ix5 b c m h d))
            * val_main_v100 (F := Ideal) (ix3 h n m)))
      + ∑ d : Fin 64, val_main_v229 (F := Ideal) x (ix5 b c h d e)
        * (val_main_v81 (F := Ideal) x (ix5 b c n h d) * val_main_v122 (F := Ideal) (ix2 h n)) := by
  unfold val_main_v236 val_main_v235 val_main_v234 val_main_v233 val_main_v232 val_main_v231 val_main_v230 val_main_v106 val_main_v105 val_main_v104 val_main_v103 val_main_v102 val_main_v101
  generalize val_main_v82 (F := Ideal) x = y
  generalize val_main_v83 (F := Ideal) x = v
  generalize val_main_v81 (F := Ideal) x = q
  generalize val_main_v229 (F := Ideal) x = s
  generalize val_main_v100 (F := Ideal) = dm
  generalize val_main_v122 (F := Ideal) = xi
  pointwise []

end Cert.Proof.Retention.Ref

end
-- ==== Proof.RetRefMean.lean ====
module

public import Idealize.ShloMosaic.Lib.Pipeline.ValueKit
public import Idealize.ShloMosaic.Lib.Pointwise
public import Idealize.ShloMosaic.Lib.KernelVsHost
public import proofs.«01_k».proof.Proof.RetRef

/-!
  The reference's group norm at an element.
-/

@[expose] public section

set_option maxRecDepth 16384

noncomputable section

namespace Cert.Proof.Retention.Ref

open Idealize.ShloMosaic Idealize.ShloMosaic.TcCoe Idealize.SL.Sem
open Cert.ReferenceIdeal Cert.ReferenceIdeal.Read

/-- The group norm's centred rows. -/
theorem v250_at (x : FVec Ideal S16384x6144 .f32) (b : Fin 8) (c : Fin 16) (n : Fin 128) (h : Fin 8) (e : Fin 128) :
    val_main_v250 (F := Ideal) x (ix4 b (pos c n) h e)
    = val_main_v236 (F := Ideal) x (ix5 b c n h e)
      - Ideal.div (∑ e' : Fin 128, val_main_v236 (F := Ideal) x (ix5 b c n h e')) (Ideal.ofBits .f32 0x43000000#32) := by
  unfold val_main_v250 val_main_v249 val_main_v241 val_main_v240 val_main_v239 val_main_v238 val_main_v237
  generalize val_main_v236 (F := Ideal) x = y
  pointwise [val_main_cst_16, val_main_cst_17]
  have e1 : (c.val * 128 + n.val) / 128 = c.val := by omega
  have e2 : (c.val * 128 + n.val) % 128 = n.val := by omega
  simp only [e1, e2]

/-- The reciprocal deviation of a row's head. -/
theorem v253_at (x : FVec Ideal S16384x6144 .f32) (b : Fin 8) (s : Fin 2048) (h : Fin 8) :
    val_main_v253 (F := Ideal) x (ix4 b s h 0)
    = Ideal.rsqrt (Ideal.div (∑ e' : Fin 128, val_main_v250 (F := Ideal) x (ix4 b s h e') * val_main_v250 (F := Ideal) x (ix4 b s h e'))
         (Ideal.ofBits .f32 0x43000000#32) + Ideal.ofBits .f32 0x358637BD#32) := by
  have e : val_main_v243 (F := Ideal) x = val_main_v250 (F := Ideal) x := rfl
  unfold val_main_v253 val_main_v252 val_main_v248 val_main_v246 val_main_v245 val_main_v244
  rw [e]
  generalize val_main_v250 (F := Ideal) x = y
  pointwise [val_main_cst_18, val_main_cst_19, val_main_cst_20, val_main_v247, val_main_v251]

end Cert.Proof.Retention.Ref

end
-- ==== Proof.RetRefState.lean ====
module

public import Idealize.ShloMosaic.Lib.Pipeline.ValueKit
public import Idealize.ShloMosaic.Lib.Pointwise
public import Idealize.ShloMosaic.Lib.KernelVsHost
public import proofs.«01_k».proof.Proof.RetRef

/-!
  The reference's states: the stack it reads them back from, and the step from one chunk to the next.
-/

@[expose] public section

set_option maxRecDepth 16384

noncomputable section

namespace Cert.Proof.Retention.Ref

open Idealize.ShloMosaic Idealize.ShloMosaic.TcCoe Idealize.SL.Sem
open Cert.ReferenceIdeal Cert.ReferenceIdeal.Gen Cert.ReferenceIdeal.Read

/-- The state each chunk starts from. -/
def st (x : FVec Ideal S16384x6144 .f32) : Fin 16 → FVec Ideal S8x8x64x128 .f32 :=
  ![val_main_v132 (F := Ideal), val_main_v137 (F := Ideal) x, val_main_v142 (F := Ideal) x, val_main_v147 (F := Ideal) x,
    val_main_v152 (F := Ideal) x, val_main_v157 (F := Ideal) x, val_main_v162 (F := Ideal) x, val_main_v167 (F := Ideal) x,
    val_main_v172 (F := Ideal) x, val_main_v177 (F := Ideal) x, val_main_v182 (F := Ideal) x, val_main_v187 (F := Ideal) x,
    val_main_v192 (F := Ideal) x, val_main_v197 (F := Ideal) x, val_main_v202 (F := Ideal) x, val_main_v207 (F := Ideal) x]

/-- A state as a piece of the stack. -/
def piece (s : FVec Ideal S8x8x64x128 .f32) : FVec Ideal S8x1x8x64x128 .f32 :=
  broadcastInDim S8x1x8x64x128 ![0, 2, 3, 4] bcast_S8x8x64x128_S8x1x8x64x128_0_2_3_4 s

/-- One element of a piece. -/
theorem piece_at (s : FVec Ideal S8x8x64x128 .f32) (b h : Fin 8) (d : Fin 64) (e : Fin 128) :
    piece s (ix5 b 0 h d e) = s (ix4 b h d e) := by
  pointwise [piece]

/-- The stack of states read at a chunk. -/
theorem v229_at (x : FVec Ideal S16384x6144 .f32) (b : Fin 8) (c : Fin 16) (h : Fin 8) (d : Fin 64) (e : Fin 128) :
    val_main_v229 (F := Ideal) x (ix5 b c h d e) = st x c (ix4 b h d e) := by
  refine Eq.trans ?_ (piece_at (st x c) b h d e)
  refine (concatenate_ofFn_unit_apply (t := S8x16x8x64x128) (s₁ := S8x1x8x64x128) 1 (fun c => piece (st x c)) _ rfl rfl
    (ix5 b c h d e) c rfl (ix5 b 0 h d e) ?_)
  intro a ha
  fin_cases a <;> first | rfl | exact absurd rfl ha

/-- A chunk's slice of the sums is inside them. -/
theorem slices_at : ∀ c : Fin 16, S8x16x8x64x128.Slices ![0, c.val, 0, 0, 0] S8x1x8x64x128 := by decide

/-- The step from a state to the next, over any sums. -/
def step (s : FVec Ideal S8x8x64x128 .f32) (de : FVec Ideal S1x8x1x1 .f32) (k : FVec Ideal S8x16x8x64x128 .f32) (c : Fin 16) :
    FVec Ideal S8x8x64x128 .f32 :=
  addf (mulf s (broadcastInDim S8x8x64x128 ![0, 1, 2, 3] bcast_S1x8x1x1_S8x8x64x128_0_1_2_3 de))
    (shapeCast S8x8x64x128 (extractStridedSlice S8x1x8x64x128 ![0, c.val, 0, 0, 0] k (slices_at c)) shapeCasts_S8x1x8x64x128_S8x8x64x128)

/-- One element of the step. -/
theorem step_at (s : FVec Ideal S8x8x64x128 .f32) (de : FVec Ideal S1x8x1x1 .f32) (k : FVec Ideal S8x16x8x64x128 .f32) (c : Fin 16)
    (b h : Fin 8) (d : Fin 64) (e : Fin 128) :
    step s de k c (ix4 b h d e) = s (ix4 b h d e) * de (ix4 0 h 0 0) + k (ix5 b c h d e) := by
  pointwise [step]

/-- Each state is the step of the one before. -/
theorem st_succ (x : FVec Ideal S16384x6144 .f32) (c : Fin 15) :
    st x c.succ = step (st x c.castSucc) (val_main_v131 (F := Ideal)) (val_main_v127 (F := Ideal) x) c.castSucc := by
  fin_cases c <;> rfl

/-- The first chunk starts from nothing. -/
theorem v229_zero (x : FVec Ideal S16384x6144 .f32) (b : Fin 8) (h : Fin 8) (d : Fin 64) (e : Fin 128) :
    val_main_v229 (F := Ideal) x (ix5 b 0 h d e) = 0 := by
  rw [v229_at]
  show val_main_v132 (F := Ideal) (ix4 b h d e) = 0
  pointwise [val_main_v132, val_main_cst_15]

/-- A later chunk's state from the one before. -/
theorem v229_succ (x : FVec Ideal S16384x6144 .f32) (b : Fin 8) (c : ℕ) (hc : c + 1 < 16) (h : Fin 8) (d : Fin 64) (e : Fin 128) :
    val_main_v229 (F := Ideal) x (ix5 b ⟨c + 1, hc⟩ h d e)
    = val_main_v229 (F := Ideal) x (ix5 b ⟨c, by omega⟩ h d e) * val_main_v131 (F := Ideal) (ix4 0 h 0 0)
      + val_main_v127 (F := Ideal) x (ix5 b ⟨c, by omega⟩ h d e) := by
  rw [v229_at, v229_at]
  exact (congrFun (st_succ x ⟨c, by omega⟩) _).trans (step_at _ _ _ _ b h d e)

end Cert.Proof.Retention.Ref

end
-- ==== Proof.RetRefOut.lean ====
module

public import Idealize.ShloMosaic.Lib.Pipeline.ValueKit
public import Idealize.ShloMosaic.Lib.Pointwise
public import Idealize.ShloMosaic.Lib.KernelVsHost
public import proofs.«01_k».proof.Proof.RetRef

/-!
  The reference's result at an element.
-/

@[expose] public section

set_option maxRecDepth 16384

noncomputable section

namespace Cert.Proof.Retention.Ref

open Idealize.ShloMosaic Idealize.ShloMosaic.TcCoe Idealize.SL.Sem
open Cert.ReferenceIdeal Cert.ReferenceIdeal.Read

/-- One element of the result. -/
theorem v264_at (x : FVec Ideal S16384x6144 .f32) (g : FVec Ideal S1x1024 .f32) (b : Fin 8) (s : Fin 2048) (h : Fin 8) (e : Fin 128) :
    val_main_v264 (F := Ideal) x g (ix2 (⟨b.val * 2048 + s.val, by omega⟩) ⟨h.val * 128 + e.val, by omega⟩)
    = x (ix2 (⟨b.val * 2048 + s.val, by omega⟩) ⟨2048 + (h.val * 128 + e.val), by omega⟩) * Ideal.logistic (x (ix2 (⟨b.val * 2048 + s.val, by omega⟩) ⟨2048 + (h.val * 128 + e.val), by omega⟩))
      * (val_main_v250 (F := Ideal) x (ix4 b (s) h e) * val_main_v253 (F := Ideal) x (ix4 b (s) h 0)
        * g (ix2 0 ⟨h.val * 128 + e.val, by omega⟩)) := by
  unfold val_main_v264 val_main_v263 val_main_v262 val_main_v260 val_main_v256 val_main_v255 val_main_v254
  generalize val_main_v250 (F := Ideal) x = y
  generalize val_main_v253 (F := Ideal) x = y'
  pointwise [val_main_v259, val_main_v258, val_main_v257, val_main_v261, val_main_v4, val_main_v0, val_main_call1_v0, val_main_call1_v1, val_main_call1_cst, val_main_call1_v2, val_main_call1_v3, val_main_call1_cst_0, val_main_call1_v4, val_main_call1_v5]
  rfl

end Cert.Proof.Retention.Ref

end
-- ==== Proof.RetCore.lean ====
module

public import proofs.«01_k».proof.Proof.RetBlock
public import proofs.«01_k».proof.Proof.RetPay
public import proofs.«01_k».proof.Proof.RetRefRot
public import proofs.«01_k».proof.Proof.RetRefSum
public import proofs.«01_k».proof.Proof.RetRefMean
public import proofs.«01_k».proof.Proof.RetRefState
public import proofs.«01_k».proof.Proof.RetRefOut

/-!
  One sequence and head of the retention: from staged blocks that hold its columns and tables, the stored block is the
  reference's result.
-/

@[expose] public section

set_option maxRecDepth 16384

noncomputable section

namespace Cert.Proof.Retention

open Idealize.ShloMosaic Idealize.ShloMosaic.TcCoe Idealize.SL.Sem
open Cert.KernelIdeal Cert.KernelIdeal.Gen
open Cert.ReferenceIdeal.Read (val_main_v7 val_main_v21 val_main_v23 val_main_v37 val_main_v39 val_main_v69 val_main_v81 val_main_v82 val_main_v83
  val_main_v100 val_main_v114 val_main_v122 val_main_v127 val_main_v131 val_main_v229 val_main_v236 val_main_v250 val_main_v253 val_main_v264)
open Cert.Proof.Retention.Ref (pos row)

/-- What the staged blocks hold at sequence `b` and head `h`: the projection's columns and the reference's tables. -/
structure Staged (P : FVec Ideal S16384x6144 .f32) (g : FVec Ideal S1x1024 .f32) (b h : Fin 8)
    (x0 x1 x2 x3 x4 : FVec Ideal S2048x128 .f32) (x5 x6 x7 x8 : FVec Ideal S1x128x128 .f32) (x9 : FVec Ideal S1x128 .f32) : Prop where
  qk : ∀ (s : Fin 2048) (l : Fin 128), x0 (ix2 s l) = P (ix2 ⟨b.val * 2048 + s.val, by omega⟩ ⟨h.val * 128 + l.val, by omega⟩)
  v : ∀ (s : Fin 2048) (l : Fin 128), x1 (ix2 s l) = P (ix2 ⟨b.val * 2048 + s.val, by omega⟩ ⟨1024 + (h.val * 128 + l.val), by omega⟩)
  gate : ∀ (s : Fin 2048) (l : Fin 128), x2 (ix2 s l) = P (ix2 ⟨b.val * 2048 + s.val, by omega⟩ ⟨2048 + (h.val * 128 + l.val), by omega⟩)
  cos : ∀ (s : Fin 2048) (l : Fin 128), x3 (ix2 s l) = val_main_v21 (F := Ideal) (ix2 s ⟨l.val % 32, by omega⟩)
  sin : ∀ (s : Fin 2048) (l : Fin 128), x4 (ix2 s l) = if l.val % 64 < 32 then -val_main_v23 (F := Ideal) (ix2 s ⟨l.val % 32, by omega⟩)
      else val_main_v23 (F := Ideal) (ix2 s ⟨l.val % 32, by omega⟩)
  mask : ∀ n k : Fin 128, x5 (ix3 0 n k) = val_main_v100 (F := Ideal) (ix3 h n k)
  xi : ∀ n l : Fin 128, x6 (ix3 0 n l) = val_main_v122 (F := Ideal) (ix2 h n)
  zeta : ∀ n l : Fin 128, x7 (ix3 0 n l) = val_main_v114 (F := Ideal) (ix2 h n)
  decay : ∀ d e : Fin 128, x8 (ix3 0 d e) = val_main_v131 (F := Ideal) (ix4 0 h 0 0)
  gain : ∀ e : Fin 128, x9 (ix2 0 e) = g (ix2 0 ⟨h.val * 128 + e.val, by omega⟩)

/-- A chunk's row of a staged block. -/
theorem chunk_at (x : FVec Ideal S2048x128 .f32) (c : Fin 16) (n l : Fin 128) :
    chunk (F := Ideal) x c.val (ix2 n l) = x (ix2 (pos c n) l) := by
  unfold chunk
  refine congrArg (fun k => x (ix2 k l)) (Fin.ext ?_)
  show (128 * c.val + n.val) % 2048 = c.val * 128 + n.val
  omega

/-- The rotation of the 64 lanes from `o` on, over any rows and angles. -/
theorem rot_at (z co si : FVec Ideal S128x128 .f32) (n : Fin 128) (o : ℕ) (ho : o = 0 ∨ o = 64) (f : Fin 64 → EReal) (cs sn : Fin 32 → EReal)
    (hz : ∀ d : Fin 64, z (ix2 n ⟨o + d.val, by omega⟩) = f d)
    (hc : ∀ l : Fin 128, co (ix2 n l) = cs ⟨l.val % 32, by omega⟩)
    (hs : ∀ l : Fin 128, si (ix2 n l) = if l.val % 64 < 32 then -sn ⟨l.val % 32, by omega⟩ else sn ⟨l.val % 32, by omega⟩) (d : Fin 64) :
    k0_pay9 (F := Ideal) k0_pay1 z co si (ix2 n ⟨o + d.val, by omega⟩)
    = if hd : d.val < 32 then f d * cs ⟨d.val, hd⟩ - f ⟨d.val + 32, by omega⟩ * sn ⟨d.val, hd⟩
      else f ⟨d.val - 32, by omega⟩ * sn ⟨d.val - 32, by omega⟩ + f d * cs ⟨d.val - 32, by omega⟩ := by
  rw [pay9_at, hz d, hc, hs]
  have hm : (o + d.val) % 64 = d.val := by omega
  have h32 : (o + d.val) % 32 = d.val % 32 := by omega
  simp only [hm, h32]
  by_cases hd : d.val < 32
  · rw [if_pos hd, if_pos hd, dif_pos hd]
    have e1 : (o + d.val + 32) % 128 = o + (d.val + 32) := by omega
    have e2 : d.val % 32 = d.val := by omega
    simp only [e1, e2]
    rw [hz ⟨d.val + 32, by omega⟩, mul_neg, ← sub_eq_add_neg]
  · rw [if_neg hd, if_neg hd, dif_neg hd]
    have e1 : (o + d.val + 96) % 128 = o + (d.val - 32) := by omega
    have e2 : d.val % 32 = d.val - 32 := by omega
    simp only [e1, e2]
    rw [hz ⟨d.val - 32, by omega⟩, add_comm]

section Head

variable {P : FVec Ideal S16384x6144 .f32} {g : FVec Ideal S1x1024 .f32} {b h : Fin 8}
  {x0 x1 x2 x3 x4 : FVec Ideal S2048x128 .f32} {x5 x6 x7 x8 : FVec Ideal S1x128x128 .f32} {x9 : FVec Ideal S1x128 .f32}

/-- The rotated queries. -/
theorem q_eq (H : Staged P g b h x0 x1 x2 x3 x4 x5 x6 x7 x8 x9) (c : Fin 16) (n : Fin 128) (d : Fin 64) :
    k0_pay9 (F := Ideal) k0_pay1 (chunk (F := Ideal) x0 c) (chunk (F := Ideal) x3 c) (chunk (F := Ideal) x4 c) (ix2 n ⟨d.val, by omega⟩)
    = val_main_v37 (F := Ideal) P (ix4 b (pos c n) h d) := by
  rw [Ref.v37_at]
  have e : (⟨d.val, by omega⟩ : Fin 128) = ⟨0 + d.val, by omega⟩ := Fin.ext (by show d.val = 0 + d.val; omega)
  rw [e]
  refine rot_at (chunk (F := Ideal) x0 c) (chunk (F := Ideal) x3 c) (chunk (F := Ideal) x4 c) n 0 (Or.inl rfl) (fun d => val_main_v7 (F := Ideal) P (ix4 b (pos c n) h d))
    (fun k => val_main_v21 (F := Ideal) (ix2 (pos c n) k)) (fun k => val_main_v23 (F := Ideal) (ix2 (pos c n) k)) ?_ ?_ ?_ d
  · intro d
    rw [chunk_at, H.qk, Ref.v7_at]
    refine congrArg (fun k => P (ix2 _ k)) (Fin.ext ?_)
    show h.val * 128 + (0 + d.val) = h.val * 128 + d.val
    omega
  · intro l
    rw [chunk_at, H.cos]
  · intro l
    rw [chunk_at, H.sin]

/-- The rotated keys. -/
theorem k_eq (H : Staged P g b h x0 x1 x2 x3 x4 x5 x6 x7 x8 x9) (c : Fin 16) (n : Fin 128) (d : Fin 64) :
    k0_pay10 (F := Ideal) k0_pay1 (chunk (F := Ideal) x0 c) (chunk (F := Ideal) x3 c) (chunk (F := Ideal) x4 c) (ix2 n ⟨d.val, by omega⟩)
    = val_main_v82 (F := Ideal) P (ix5 b c n h d) := by
  rw [Ref.v82_at, Ref.v69_at, pay10_at]
  have e : (⟨(d.val + 64) % 128, Nat.mod_lt _ (by decide)⟩ : Fin 128) = ⟨64 + d.val, by omega⟩ :=
    Fin.ext (by show (d.val + 64) % 128 = 64 + d.val; omega)
  refine (congrArg (fun k => k0_pay9 (F := Ideal) k0_pay1 (chunk (F := Ideal) x0 c) (chunk (F := Ideal) x3 c) (chunk (F := Ideal) x4 c) (ix2 n k)) e).trans ?_
  refine rot_at (chunk (F := Ideal) x0 c) (chunk (F := Ideal) x3 c) (chunk (F := Ideal) x4 c) n 64 (Or.inr rfl) (fun d => val_main_v39 (F := Ideal) P (ix4 b (pos c n) h d))
    (fun k => val_main_v21 (F := Ideal) (ix2 (pos c n) k)) (fun k => val_main_v23 (F := Ideal) (ix2 (pos c n) k)) ?_ ?_ ?_ d
  · intro d
    rw [chunk_at, H.qk, Ref.v39_at]
    refine congrArg (fun k => P (ix2 _ k)) (Fin.ext ?_)
    show h.val * 128 + (64 + d.val) = h.val * 128 + 64 + d.val
    omega
  · intro l
    rw [chunk_at, H.cos]
  · intro l
    rw [chunk_at, H.sin]

/-- The scaled queries: the reference's on the query lanes. -/
theorem qs_eq (H : Staged P g b h x0 x1 x2 x3 x4 x5 x6 x7 x8 x9) (c : Fin 16) (n : Fin 128) (d : Fin 64) :
    k0_pay9 (F := Ideal) k0_pay1 (chunk (F := Ideal) x0 c) (chunk (F := Ideal) x3 c) (chunk (F := Ideal) x4 c) (ix2 n ⟨d.val, by omega⟩) * k0_pay2 (F := Ideal) (ix2 n ⟨d.val, by omega⟩)
    = val_main_v81 (F := Ideal) P (ix5 b c n h d) := by
  rw [q_eq H, Ref.v81_at, pay2_at, if_pos d.isLt]

/-- The scaled queries: zero on the other lanes. -/
theorem qs_zero (w : EReal) (n l : Fin 128) (hl : 64 ≤ l.val) : w * k0_pay2 (F := Ideal) (ix2 n l) = 0 := by
  rw [pay2_at, if_neg (by omega), mul_zero]

/-- The values. -/
theorem v_eq (H : Staged P g b h x0 x1 x2 x3 x4 x5 x6 x7 x8 x9) (c : Fin 16) (n e : Fin 128) :
    chunk (F := Ideal) x1 c (ix2 n e) = val_main_v83 (F := Ideal) P (ix5 b c n h e) := by
  rw [chunk_at, H.v, Ref.v83_at]

/-- The state that each chunk finds is the reference's. -/
theorem kst_eq (H : Staged P g b h x0 x1 x2 x3 x4 x5 x6 x7 x8 x9) (c : ℕ) (hc : c < 16) (d : Fin 64) (e : Fin 128) :
    kst (F := Ideal) x0 x1 x3 x4 x7 x8 c (ix2 ⟨d.val, by omega⟩ e) = val_main_v229 (F := Ideal) P (ix5 b ⟨c, hc⟩ h d e) := by
  induction c generalizing d e with
  | zero =>
    refine Eq.trans ?_ (Ref.v229_zero P b h d e).symm
    show k0_pay6 (F := Ideal) _ = 0
    pointwise [k0_pay6]
  | succ c ih =>
    have hc' : c < 16 := by omega
    rw [Ref.v229_succ, Ref.v127_at, ← ih hc']
    show k0_pay8 (F := Ideal) x8 _ _ _ = _
    rw [pay8_at, pay11_at, H.decay]
    refine congrArg (_ + ·) (Finset.sum_congr rfl fun n _ => ?_)
    have e1 := k_eq H ⟨c, hc'⟩ n d
    have e2 := v_eq H ⟨c, hc'⟩ n e
    rw [← e1, ← e2, pay5_at, H.zeta]

/-- A chunk's rows before the group norm are the reference's. -/
theorem yk_eq (H : Staged P g b h x0 x1 x2 x3 x4 x5 x6 x7 x8 x9) (c : Fin 16) (n e : Fin 128) :
    yk k0_pay1 (k0_pay2 (F := Ideal)) (k0_pay3 (F := Ideal) x5) (k0_pay4 (F := Ideal) x6) (kst (F := Ideal) x0 x1 x3 x4 x7 x8 c)
      (chunk (F := Ideal) x0 c) (chunk (F := Ideal) x3 c) (chunk (F := Ideal) x4 c) (chunk (F := Ideal) x1 c) n e
    = val_main_v236 (F := Ideal) P (ix5 b c n h e) := by
  rw [Ref.v236_at]
  unfold yk
  refine congrArg₂ (fun a b : EReal => a + b) (Finset.sum_congr rfl fun k _ => ?_) ?_
  · rw [sum_lanes _ fun l hl => by rw [qs_zero _ n l hl, zero_mul], v_eq H, pay3_at, H.mask, mul_comm]
    refine congrArg (fun a => val_main_v83 (F := Ideal) P (ix5 b c k h e) * (a * _)) (Finset.sum_congr rfl fun d _ => ?_)
    rw [qs_eq H, k_eq H]
  · rw [sum_lanes _ fun l hl => by rw [qs_zero _ n l hl, zero_mul, zero_mul]]
    refine Finset.sum_congr rfl fun d _ => ?_
    rw [qs_eq H, kst_eq H c.val c.isLt, pay4_at, H.xi, mul_comm]

/-- The stored rows of a chunk are the reference's. -/
theorem kout_eq (H : Staged P g b h x0 x1 x2 x3 x4 x5 x6 x7 x8 x9) (c : Fin 16) (n e : Fin 128) :
    kout (F := Ideal) x0 x1 x2 x3 x4 x5 x6 x7 x8 x9 c (ix2 n e)
    = val_main_v264 (F := Ideal) P g (ix2 (row b c n) ⟨h.val * 128 + e.val, by omega⟩) := by
  have e12 : ∀ e : Fin 128, k0_pay12 (F := Ideal) k0_pay1 k0_pay2 (k0_pay3 x5) (k0_pay4 x6) (kst (F := Ideal) x0 x1 x3 x4 x7 x8 c)
      (chunk (F := Ideal) x0 c) (chunk (F := Ideal) x3 c) (chunk (F := Ideal) x4 c) (chunk (F := Ideal) x1 c) (ix2 n e) = val_main_v250 (F := Ideal) P (ix4 b (pos c n) h e) := fun e => by
    rw [pay12_at, Ref.v250_at]
    simp only [yk_eq H]
  refine Eq.trans ?_ (Ref.v264_at P g b (pos c n) h e).symm
  unfold kout
  rw [pay7_at, pay13_at, Ref.v253_at, chunk_at, H.gate, H.gain]
  simp only [e12]

/-- The stored block is the reference's. -/
theorem kblk_eq (H : Staged P g b h x0 x1 x2 x3 x4 x5 x6 x7 x8 x9) (s : Fin 2048) (e : Fin 128) :
    kblk (F := Ideal) x0 x1 x2 x3 x4 x5 x6 x7 x8 x9 (ix2 s e)
    = val_main_v264 (F := Ideal) P g (ix2 ⟨b.val * 2048 + s.val, by omega⟩ ⟨h.val * 128 + e.val, by omega⟩) := by
  refine (kout_eq H ⟨s.val / 128, by omega⟩ ⟨s.val % 128, by omega⟩ e).trans ?_
  refine congrArg (fun k => val_main_v264 (F := Ideal) P g (ix2 k _)) (Fin.ext ?_)
  show b.val * 2048 + (s.val / 128 * 128 + s.val % 128) = b.val * 2048 + s.val
  omega

end Head

end Cert.Proof.Retention

end
-- ==== Proof.RetTables.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.StableHlo.ReadAt
public import Idealize.ShloMosaic.Lib.KernelVsHost

/-!
  The tables the launch is given beside the projected columns: each is a spreading of the reference's own table.
-/

@[expose] public section

set_option maxRecDepth 16384

noncomputable section

namespace Cert.Proof.Retention

open Idealize.ShloMosaic Idealize.ShloMosaic.TcCoe Idealize.SL.Sem
open Cert.KernelIdeal Cert.KernelIdeal.Gen
open Cert.ReferenceIdeal.Read (val_main_v21 val_main_v23 val_main_v80 val_main_v91 val_main_v99 val_main_v100 val_main_v114 val_main_v122 val_main_v130 val_main_v131)

variable (m : (ℓ : Loc nD τ sig) → Buf (Elt Ideal) ℓ)

/-- The decay of a whole chunk, over every lane. -/
theorem decay_at (c : Dev nD) (h : Fin 8) (d e : Fin 128) :
    (V m c main_v75 : FVec Ideal S8x128x128 .f32) (ix3 h d e) = val_main_v131 (F := Ideal) (ix4 0 h 0 0) := by
  have e0 : (V m c main_v75 : FVec Ideal S8x128x128 .f32)
      = broadcastInDim S8x128x128 ![0, 1, 2] bcast_S8x1x1_S8x128x128_0_1_2
          (broadcastInDim S8x1x1 ![0] bcast_S8_S8x1x1_0 (val_main_v130 (F := Ideal))) := by
    unfold V
    after_reads_simp
    rfl
  rw [e0]
  unfold val_main_v131
  generalize val_main_v130 (F := Ideal) = y
  pointwise []

/-- The decay to a row within its chunk, over every lane. -/
theorem xi_at (c : Dev nD) (h : Fin 8) (n d : Fin 128) :
    (V m c main_v77 : FVec Ideal S8x128x128 .f32) (ix3 h n d) = val_main_v122 (F := Ideal) (ix2 h n) := by
  have e0 : (V m c main_v77 : FVec Ideal S8x128x128 .f32)
      = broadcastInDim S8x128x128 ![0, 1, 2] bcast_S8x128x1_S8x128x128_0_1_2
          (broadcastInDim S8x128x1 ![0, 1] bcast_S8x128_S8x128x1_0_1 (val_main_v122 (F := Ideal))) := by
    unfold V
    after_reads_simp
    rfl
  rw [e0]
  generalize val_main_v122 (F := Ideal) = y
  pointwise []

/-- The decay from a row to its chunk's end, over every lane. -/
theorem zeta_at (c : Dev nD) (h : Fin 8) (n d : Fin 128) :
    (V m c main_v79 : FVec Ideal S8x128x128 .f32) (ix3 h n d) = val_main_v114 (F := Ideal) (ix2 h n) := by
  have e0 : (V m c main_v79 : FVec Ideal S8x128x128 .f32)
      = broadcastInDim S8x128x128 ![0, 1, 2] bcast_S8x128x1_S8x128x128_0_1_2
          (broadcastInDim S8x128x1 ![0, 1] bcast_S8x128_S8x128x1_0_1 (val_main_v114 (F := Ideal))) := by
    unfold V
    after_reads_simp
    rfl
  rw [e0]
  generalize val_main_v114 (F := Ideal) = y
  pointwise []

/-- The decay between two rows of a chunk, none forward. -/
theorem mask_eq (c : Dev nD) : (V m c main_v54 : FVec Ideal S8x128x128 .f32) = val_main_v100 (F := Ideal) := by
  unfold V
  after_reads_simp
  rfl

/-- The group norm's weight as it is staged. -/
theorem gain_at (c : Dev nD) (k : Fin 1024) : (V m c main_v2 : FVec Ideal S1x1024 .f32) (ix2 0 k)
    = (m (c, Proc.tc.devRef main_arg1) : FVec Ideal S1x1024 .f32) (ix2 0 k) := by
  unfold V
  after_reads_simp
  pointwise []

end Cert.Proof.Retention

end
-- ==== Proof.RetAngles.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.StableHlo.ReadAt
public import Idealize.ShloMosaic.Lib.KernelVsHost

/-!
  The tables of cosines and sines the launch is given: each lane takes the reference's angle of its place in its half head.
-/

@[expose] public section

set_option maxRecDepth 16384

noncomputable section

namespace Cert.Proof.Retention

open Idealize.ShloMosaic Idealize.ShloMosaic.TcCoe Idealize.SL.Sem
open Cert.KernelIdeal Cert.KernelIdeal.Gen
open Cert.ReferenceIdeal.Read (val_main_v21 val_main_v23)

variable (m : (ℓ : Loc nD τ sig) → Buf (Elt Ideal) ℓ)

/-- Taking columns by a table: the result's column is the operand's column the table names. -/
theorem columns_at (x : FVec Ideal S2048x32 .f32) (i : IVec S128x1 32) (s : Fin 2048) (l : Fin 128) :
    Host.gather gather_S2048x32_S128x1_S2048x128_0_1_n_n_1_1_20481 x i (ix2 s l)
    = x (ix2 s ⟨min (i (ix2 l 0)).toInt.toNat 31, by omega⟩) := by
  unfold Host.gather
  congr 1
  funext a
  refine Fin.ext ?_
  match a with
  | ⟨0, _⟩ =>
    show gather_S2048x32_S128x1_S2048x128_0_1_n_n_1_1_20481.start (ix2 s l) i 0 + gather_S2048x32_S128x1_S2048x128_0_1_n_n_1_1_20481.batchCoord (ix2 s l) 0 + gather_S2048x32_S128x1_S2048x128_0_1_n_n_1_1_20481.offCoord (ix2 s l) 0 = s.val
    have h0 : (0 : Fin S2048x32.rank) ∉ gather_S2048x32_S128x1_S2048x128_0_1_n_n_1_1_20481.startIndexMap := by decide
    have h1 : (0 : Fin S2048x32.rank) ∈ gather_S2048x32_S128x1_S2048x128_0_1_n_n_1_1_20481.sKept := by decide
    rw [GatherDims.batchCoord_eq_zero _ _ _ List.not_mem_nil]
    unfold GatherDims.start GatherDims.offCoord
    rw [dif_neg h0, dif_pos h1]
    show 0 + 0 + s.val = s.val
    omega
  | ⟨1, _⟩ =>
    show gather_S2048x32_S128x1_S2048x128_0_1_n_n_1_1_20481.start (ix2 s l) i 1 + gather_S2048x32_S128x1_S2048x128_0_1_n_n_1_1_20481.batchCoord (ix2 s l) 1 + gather_S2048x32_S128x1_S2048x128_0_1_n_n_1_1_20481.offCoord (ix2 s l) 1 = _
    have h0 : (1 : Fin S2048x32.rank) ∈ gather_S2048x32_S128x1_S2048x128_0_1_n_n_1_1_20481.startIndexMap := by decide
    have h1 : (1 : Fin S2048x32.rank) ∉ gather_S2048x32_S128x1_S2048x128_0_1_n_n_1_1_20481.sKept := by decide
    rw [GatherDims.batchCoord_eq_zero _ _ _ List.not_mem_nil, GatherDims.offCoord_eq_zero _ _ _ h1]
    unfold GatherDims.start
    rw [dif_pos h0]
    have e : GatherDims.siIdx gather_S2048x32_S128x1_S2048x128_0_1_n_n_1_1_20481 (ix2 s l)
        ⟨List.idxOf (1 : Fin S2048x32.rank) gather_S2048x32_S128x1_S2048x128_0_1_n_n_1_1_20481.startIndexMap, List.idxOf_lt_length_iff.2 h0⟩ = ix2 l 0 := by
      funext b
      refine Fin.ext ?_
      match b with
      | ⟨0, _⟩ => rfl
      | ⟨1, _⟩ => rfl
    rw [e]
    rfl

/-- A table of columns, as the program makes it from its words: a negative one would be counted from the end. -/
def lanes (w : Fin 128 → BitVec 32) : IVec S128x1 32 :=
  broadcastInDim S128x1 ![0] bcast_S128_S128x1_0
    (select (constantI S128 1 0#1) (addi (fun i => w (S128.rowMajor i)) (broadcastInDim S128 ![] bcast_S_S128 (constantI S_ 32 32#32)))
      (fun i => w (S128.rowMajor i)))

/-- A table's word at a lane. -/
theorem lanes_at (w : Fin 128 → BitVec 32) (l : Fin 128) : lanes w (ix2 l 0) = w l := by
  have e : lanes w (ix2 l 0) = w (S128.rowMajor (ix1 l)) := by
    pointwise [lanes]
  rw [e]
  exact congrArg w (Fin.ext (Shape.rowMajor_val_one (ix1 l)))

/-- The columns a table of places in the half heads names. -/
theorem places_at (x : FVec Ideal S2048x32 .f32) (w : Fin 128 → BitVec 32) (h : ∀ l : Fin 128, min (w l).toInt.toNat 31 = l.val % 32)
    (s : Fin 2048) (l : Fin 128) :
    Host.gather gather_S2048x32_S128x1_S2048x128_0_1_n_n_1_1_20481 x (lanes w) (ix2 s l) = x (ix2 s ⟨l.val % 32, by omega⟩) := by
  refine (columns_at x (lanes w) s l).trans (congrArg (fun k => x (ix2 s k)) (Fin.ext ?_))
  show min (lanes w (ix2 l 0)).toInt.toNat 31 = l.val % 32
  rw [lanes_at, h]

/-- The word of minus one. -/
theorem neg_one : Ideal.ofBits .f32 0xBF800000#32 = -1 := by
  rw [show (-1 : EReal) = ((-(1 : ℝ) : ℝ) : EReal) from by rw [EReal.coe_neg, EReal.coe_one]]
  simp [Ideal.ofBits, Ideal.ieee, -EReal.coe_mul, -EReal.coe_neg]; norm_num

/-- The cosine of a lane is the reference's cosine of its place in its half head. -/
theorem cos_at (c : Dev nD) (s : Fin 2048) (l : Fin 128) :
    (V m c main_v21 : FVec Ideal S2048x128 .f32) (ix2 s l) = val_main_v21 (F := Ideal) (ix2 s ⟨l.val % 32, by omega⟩) := by
  have e0 : (V m c main_v21 : FVec Ideal S2048x128 .f32)
      = Host.gather gather_S2048x32_S128x1_S2048x128_0_1_n_n_1_1_20481 (val_main_v21 (F := Ideal)) (lanes lit0) := by
    unfold V
    after_reads_simp
    rfl
  rw [e0]
  exact places_at _ lit0 (by decide +kernel) s l

/-- The sine of a lane is the reference's sine of its place in its half head, signed by which half of the head it lies in. -/
theorem sin_at (c : Dev nD) (s : Fin 2048) (l : Fin 128) :
    (V m c main_v29 : FVec Ideal S2048x128 .f32) (ix2 s l)
    = if l.val % 64 < 32 then -val_main_v23 (F := Ideal) (ix2 s ⟨l.val % 32, by omega⟩)
      else val_main_v23 (F := Ideal) (ix2 s ⟨l.val % 32, by omega⟩) := by
  have e0 : (V m c main_v29 : FVec Ideal S2048x128 .f32)
      = mulf (Host.gather gather_S2048x32_S128x1_S2048x128_0_1_n_n_1_1_20481 (val_main_v23 (F := Ideal)) (lanes lit1))
          (broadcastInDim S2048x128 ![0, 1] bcast_S1x128_S2048x128_0_1 (broadcastInDim S1x128 ![1] bcast_S128_S1x128_1
            (fun i => FloatOps.ofBits (F := Ideal) .f32 (lit2 (S128.rowMajor i))))) := by
    unfold V
    after_reads_simp
    rfl
  have e1 : (V m c main_v29 : FVec Ideal S2048x128 .f32) (ix2 s l)
      = val_main_v23 (F := Ideal) (ix2 s ⟨l.val % 32, by omega⟩) * Ideal.ofBits .f32 (lit2 l) := by
    rw [e0]
    refine congrArg₂ (fun a b : EReal => a * b) (places_at _ lit1 (by decide +kernel) s l) ?_
    exact congrArg (fun k => Ideal.ofBits .f32 (lit2 k)) (Fin.ext (Shape.rowMajor_val_one (ix1 l)))
  have h2 : ∀ l : Fin 128, lit2 l = if l.val % 64 < 32 then 0xBF800000#32 else 0x3F800000#32 := by decide +kernel
  rw [e1, h2]
  split
  · rw [neg_one, mul_neg, mul_one]
  · rw [Ideal.ofBits_one_f32, mul_one]

end Cert.Proof.Retention

end
-- ==== Proof.RetValue.lean ====
module

public import proofs.«01_k».proof.Defs
public import proofs.«01_k».proof.Proof.RetCore
public import proofs.«01_k».proof.Proof.RetTables
public import proofs.«01_k».proof.Proof.RetAngles
public import proofs.«01_k».proof.Proof.Gen.ReferenceIdeal.Run
public import Idealize.ShloMosaic.Lib.Claim

/-!
  The retention's result array and its value claim: every grid point stores the reference's block of its sequence and head.
-/

@[expose] public section

set_option maxRecDepth 16384

noncomputable section

namespace Cert.Proof.Retention

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block sits at each grid point. -/
theorem idx : ∀ t : Fin cfg0.N, win0_0.index t = ![t.val / 8, t.val % 8] ∧ win0_1.index t = ![t.val / 8, 8 + t.val % 8]
    ∧ win0_2.index t = ![t.val / 8, 16 + t.val % 8] ∧ win0_3.index t = ![0, 0] ∧ win0_4.index t = ![0, 0]
    ∧ win0_5.index t = ![t.val % 8, 0, 0] ∧ win0_6.index t = ![t.val % 8, 0, 0] ∧ win0_7.index t = ![t.val % 8, 0, 0]
    ∧ win0_8.index t = ![t.val % 8, 0, 0] ∧ win0_9.index t = ![0, t.val % 8] ∧ win0_10.index t = ![t.val / 8, t.val % 8] :=
  (by decide +kernel : ∀ t : Fin grid0.N, _)

/-- The projection as the launch finds it. -/
abbrev proj (c : Dev nD) : FVec Ideal S16384x6144 .f32 := m (c, Proc.tc.devRef main_arg0)

/-- The group norm's weight as the launch finds it. -/
abbrev gn (c : Dev nD) : FVec Ideal S1x1024 .f32 := m (c, Proc.tc.devRef main_arg1)

/-- The staged queries and keys. -/
theorem blk_qk (c : Dev nD) (t : Fin cfg0.N) (s : Fin 2048) (l : Fin 128) :
    (iblk m c 0 t : FVec Ideal S2048x128 .f32) (ix2 s l) = (V m c main_arg0 : FVec Ideal S16384x6144 .f32)
      (ix2 ⟨t.val / 8 * 2048 + s.val, by have := t.isLt; have : cfg0.N = 64 := N_0; omega⟩ ⟨t.val % 8 * 128 + l.val, by omega⟩) := by
  have hN : cfg0.N = 64 := N_0
  have ht := t.isLt
  blk_ext! [iblk, idx t]

/-- The staged values. -/
theorem blk_v (c : Dev nD) (t : Fin cfg0.N) (s : Fin 2048) (l : Fin 128) :
    (iblk m c 1 t : FVec Ideal S2048x128 .f32) (ix2 s l) = (V m c main_arg0 : FVec Ideal S16384x6144 .f32)
      (ix2 ⟨t.val / 8 * 2048 + s.val, by have := t.isLt; have : cfg0.N = 64 := N_0; omega⟩ ⟨1024 + (t.val % 8 * 128 + l.val), by omega⟩) := by
  have hN : cfg0.N = 64 := N_0
  have ht := t.isLt
  blk_ext! [iblk, idx t]

/-- The staged gate. -/
theorem blk_gate (c : Dev nD) (t : Fin cfg0.N) (s : Fin 2048) (l : Fin 128) :
    (iblk m c 2 t : FVec Ideal S2048x128 .f32) (ix2 s l) = (V m c main_arg0 : FVec Ideal S16384x6144 .f32)
      (ix2 ⟨t.val / 8 * 2048 + s.val, by have := t.isLt; have : cfg0.N = 64 := N_0; omega⟩ ⟨2048 + (t.val % 8 * 128 + l.val), by omega⟩) := by
  have hN : cfg0.N = 64 := N_0
  have ht := t.isLt
  blk_ext! [iblk, idx t]

/-- The staged cosines. -/
theorem blk_cos (c : Dev nD) (t : Fin cfg0.N) (s : Fin 2048) (l : Fin 128) :
    (iblk m c 3 t : FVec Ideal S2048x128 .f32) (ix2 s l) = (V m c main_v21 : FVec Ideal S2048x128 .f32) (ix2 s l) := by
  have hN : cfg0.N = 64 := N_0
  have ht := t.isLt
  blk_ext! [iblk, idx t]

/-- The staged sines. -/
theorem blk_sin (c : Dev nD) (t : Fin cfg0.N) (s : Fin 2048) (l : Fin 128) :
    (iblk m c 4 t : FVec Ideal S2048x128 .f32) (ix2 s l) = (V m c main_v29 : FVec Ideal S2048x128 .f32) (ix2 s l) := by
  have hN : cfg0.N = 64 := N_0
  have ht := t.isLt
  blk_ext! [iblk, idx t]

/-- The staged decays between rows. -/
theorem blk_mask (c : Dev nD) (t : Fin cfg0.N) (n : Fin 128) (k : Fin 128) :
    (iblk m c 5 t : FVec Ideal S1x128x128 .f32) (ix3 0 n k)
      = (V m c main_v54 : FVec Ideal S8x128x128 .f32) (ix3 ⟨t.val % 8, by omega⟩ n k) := by
  have hN : cfg0.N = 64 := N_0
  have ht := t.isLt
  blk_ext! [iblk, idx t]

/-- The staged decays to the rows. -/
theorem blk_xi (c : Dev nD) (t : Fin cfg0.N) (n : Fin 128) (l : Fin 128) :
    (iblk m c 6 t : FVec Ideal S1x128x128 .f32) (ix3 0 n l)
      = (V m c main_v77 : FVec Ideal S8x128x128 .f32) (ix3 ⟨t.val % 8, by omega⟩ n l) := by
  have hN : cfg0.N = 64 := N_0
  have ht := t.isLt
  blk_ext! [iblk, idx t]

/-- The staged decays from the rows. -/
theorem blk_zeta (c : Dev nD) (t : Fin cfg0.N) (n : Fin 128) (l : Fin 128) :
    (iblk m c 7 t : FVec Ideal S1x128x128 .f32) (ix3 0 n l)
      = (V m c main_v79 : FVec Ideal S8x128x128 .f32) (ix3 ⟨t.val % 8, by omega⟩ n l) := by
  have hN : cfg0.N = 64 := N_0
  have ht := t.isLt
  blk_ext! [iblk, idx t]

/-- The staged decay of a chunk. -/
theorem blk_decay (c : Dev nD) (t : Fin cfg0.N) (d : Fin 128) (e : Fin 128) :
    (iblk m c 8 t : FVec Ideal S1x128x128 .f32) (ix3 0 d e)
      = (V m c main_v75 : FVec Ideal S8x128x128 .f32) (ix3 ⟨t.val % 8, by omega⟩ d e) := by
  have hN : cfg0.N = 64 := N_0
  have ht := t.isLt
  blk_ext! [iblk, idx t]

/-- The staged norm's weight. -/
theorem blk_gain (c : Dev nD) (t : Fin cfg0.N) (e : Fin 128) :
    (iblk m c 9 t : FVec Ideal S1x128 .f32) (ix2 0 e)
      = (V m c main_v2 : FVec Ideal S1x1024 .f32) (ix2 0 ⟨t.val % 8 * 128 + e.val, by omega⟩) := by
  have hN : cfg0.N = 64 := N_0
  have ht := t.isLt
  blk_ext! [iblk, idx t]

/-- The blocks staged at a grid point hold its sequence's and head's columns and tables. -/
theorem staged (c : Dev nD) (t : Fin cfg0.N) :
    Staged (proj m c) (gn m c) ⟨t.val / 8, by have := t.isLt; have : cfg0.N = 64 := N_0; omega⟩ ⟨t.val % 8, by omega⟩
      (iblk m c 0 t) (iblk m c 1 t) (iblk m c 2 t) (iblk m c 3 t) (iblk m c 4 t) (iblk m c 5 t) (iblk m c 6 t) (iblk m c 7 t)
      (iblk m c 8 t) (iblk m c 9 t) where
  qk s l := (blk_qk m c t s l).trans (congrFun (V_main_arg0 m c) _)
  v s l := (blk_v m c t s l).trans (congrFun (V_main_arg0 m c) _)
  gate s l := (blk_gate m c t s l).trans (congrFun (V_main_arg0 m c) _)
  cos s l := (blk_cos m c t s l).trans (cos_at m c s l)
  sin s l := (blk_sin m c t s l).trans (sin_at m c s l)
  mask n k := (blk_mask m c t n k).trans (congrFun (mask_eq m c) _)
  xi n l := (blk_xi m c t n l).trans (xi_at m c _ n l)
  zeta n l := (blk_zeta m c t n l).trans (zeta_at m c _ n l)
  decay d e := (blk_decay m c t d e).trans (decay_at m c _ d _)
  gain e := (blk_gain m c t e).trans (gain_at m c _)

open Cert.ReferenceIdeal.Read in
/-- One element of a stored block is the reference's element at its place in the result. -/
theorem point (c : Dev nD) (t : Fin cfg0.N) (y : S2048x128.Idx) :
    kblk (F := Ideal) (iblk m c 0 t) (iblk m c 1 t) (iblk m c 2 t) (iblk m c 3 t) (iblk m c 4 t) (iblk m c 5 t) (iblk m c 6 t)
      (iblk m c 7 t) (iblk m c 8 t) (iblk m c 9 t) y
    = val_main_v264 (F := Ideal) (proj m c) (gn m c) (((cfg0.win 10).blk t).view.emb y) := by
  have hN : cfg0.N = 64 := N_0
  have ht := t.isLt
  idx_vars y
  have e : (((cfg0.win 10).blk t).view.emb (ix2 y0 y1) : S16384x1024.Idx)
      = ix2 ⟨t.val / 8 * 2048 + y0.val, by omega⟩ ⟨t.val % 8 * 128 + y1.val, by omega⟩ := by blk_ext [idx t]
  rw [e]
  exact kblk_eq (staged m c t) y0 y1

open Cert.ReferenceIdeal.Read in
/-- The launch's result array is the reference's result. -/
theorem final10 (c : Dev nD) : (dats m 0 c).arrAt 10 (cfgs 0).N = val_main_v264 (F := Ideal) (proj m c) (gn m c) := by
  refine (dats m 0 c).arrAt_eq_of_covers 10 _ (by decide +kernel) fun t _ y => ?_
  blk_simp
  rw [after0_10]; frame_out
  refine (out_eq _ _ _ _ _ _ _ _ _ _ _ _ _ _ _ _ _ _ _ _ _ _ _ _ _ _ _ _ _ _ _ _ _ _ _).trans ?_
  exact point m c t y

end Cert.Proof.Retention

namespace Cert.Proof

open Idealize.ShloMosaic Idealize.ShloMosaic.TcCoe Idealize.SL.Sem

/-- The retention's kernel and its reference compute the same array. -/
theorem retention : Cert.algebraic_KernelIdeal_ReferenceIdeal := by
  pair_intro
  · run_from Cert.KernelIdeal.Gen.run_main m g
    exact Cert.KernelIdeal.Gen.V_main_arg1 m c
  · run_from Cert.ReferenceIdeal.Value.run m' g'
    have h := Cert.ReferenceIdeal.Read.val_main_v264_eq (F := Ideal) (StableHlo.launchContents m' c)
    have h0 : StableHlo.launchContents m' c (Proc.devRef .tc Cert.ReferenceIdeal.main_arg0)
        = m ((c : Thread Cert.KernelIdeal.nD Cert.KernelIdeal.τ).loc Cert.KernelIdeal.main_arg0) := (hagree c).1
    have h1 : StableHlo.launchContents m' c (Proc.devRef .tc Cert.ReferenceIdeal.main_arg1)
        = m ((c : Thread Cert.KernelIdeal.nD Cert.KernelIdeal.τ).loc Cert.KernelIdeal.main_arg1) := (hagree c).2
    rw [h1, h0] at h
    refine h.trans ?_
    exact (Retention.final10 m c).symm

end Cert.Proof

end
-- ==== Proof.CmpPay.lean ====
module

public import Idealize.ShloMosaic.Lib.Pipeline.ValueKit
public import Idealize.ShloMosaic.Lib.Pointwise
public import Idealize.ShloMosaic.Lib.WholeRead
public import Idealize.ShloMosaic.Lib.KernelVsHost
public import proofs.«01_k».proof.Proof.Gen.Kernel4Ideal.Value

/-!
  One block of the compression, element by element: thirty-two products of shifted rows with their slices of the
  first weight, the second sixteen moved up by one block, then the activation and the second weight.
-/

@[expose] public section

set_option maxRecDepth 16384

noncomputable section

namespace Cert.Proof.Compression

open Idealize.ShloMosaic Idealize.ShloMosaic.TcCoe Idealize.SL.Sem
open Idealize.ShloMosaic.Pipeline (Dat)
open Cert.Kernel4Ideal Cert.Kernel4Ideal.Gen

/-- One piece of the first product: 128 rows shifted by a position's encoding, times the position's slice of the weight. -/
def pc (v : FVec Ideal S128x128 .f32) (e : FVec Ideal S1x1x128 .f32) (w : FVec Ideal S1x128x256 .f32) (r : Fin 128) (q : Fin 256) : EReal :=
  ∑ k : Fin 128, (v (ix2 r k) + e (ix3 0 0 k)) * w (ix3 0 k q)

/-- One step of the accumulation at an element. -/
theorem pay2_at (v e w) (r : Fin 128) (q : Fin 256) : k0_pay2 (F := Ideal) v e w (ix2 r q) = pc v e w r q := by
  pointwise [k0_pay2, pc]

/-- One step of the accumulation at an element. -/
theorem pay3_at (v e w v' e' w') (r : Fin 128) (q : Fin 256) :
    k0_pay3 (F := Ideal) v e w v' e' w' (ix2 r q) = pc v e w r q + pc v' e' w' r q := by
  pointwise [k0_pay3, pc]

/-- One step of the accumulation at an element. -/
theorem pay4_at (a v e w) (r : Fin 128) (q : Fin 256) : k0_pay4 (F := Ideal) a v e w (ix2 r q) = a (ix2 r q) + pc v e w r q := by
  pointwise [k0_pay4, pc]

/-- One step of the accumulation at an element. -/
theorem pay5_at (a v e w v' e' w') (r : Fin 128) (q : Fin 256) :
    k0_pay5 (F := Ideal) a v e w v' e' w' (ix2 r q) = a (ix2 r q) + pc v e w r q + pc v' e' w' r q := by
  pointwise [k0_pay5, pc]

/-- One step of the accumulation at an element. -/
theorem pay7_at (a v e w v' e' w') (r : Fin 128) (q : Fin 256) :
    k0_pay7 (F := Ideal) a (k0_pay6 v e) w v' e' w' (ix2 r q) = a (ix2 r q) + pc v e w r q + pc v' e' w' r q := by
  pointwise [k0_pay7, k0_pay6, pc]

/-- One step of the accumulation at an element. -/
theorem pay8_at (a v e w v' e' w') (r : Fin 128) (q : Fin 256) :
    k0_pay8 (F := Ideal) a v e w v' e' w' (ix2 r q) = a (ix2 r q) + pc v e w r q + pc v' e' w' r q := by
  pointwise [k0_pay8, pc]

/-- One step of the accumulation at an element. -/
theorem pay10_at (a v e w v' e' w') (r : Fin 128) (q : Fin 256) :
    k0_pay10 (F := Ideal) a v (k0_pay9 e) w v' e' w' (ix2 r q) = a (ix2 r q) + pc v e w r q + pc v' e' w' r q := by
  pointwise [k0_pay10, k0_pay9, pc]

/-- One step of the accumulation at an element. -/
theorem pay11_at (a v e w v' e' w') (r : Fin 128) (q : Fin 256) :
    k0_pay11 (F := Ideal) a v e w v' e' w' (ix2 r q) = a (ix2 r q) + pc v e w r q + pc v' e' w' r q := by
  pointwise [k0_pay11, pc]

/-- One step of the accumulation at an element. -/
theorem pay12_at (a v e w) (r : Fin 128) (q : Fin 256) : k0_pay12 (F := Ideal) a v e w (ix2 r q) = a (ix2 r q) + pc v e w r q := by
  pointwise [k0_pay12, pc]

/-- One step of the accumulation at an element. -/
theorem pay13_at (a v e w v' e' w') (r : Fin 128) (q : Fin 256) :
    k0_pay13 (F := Ideal) a v e w v' e' w' (ix2 r q) = a (ix2 r q) + pc v e w r q + pc v' e' w' r q := by
  pointwise [k0_pay13, pc]

/-- One step of the accumulation at an element. -/
theorem pay15_at (a v e w v' e' w') (r : Fin 128) (q : Fin 256) :
    k0_pay15 (F := Ideal) a (k0_pay14 v e) w v' e' w' (ix2 r q) = a (ix2 r q) + pc v e w r q + pc v' e' w' r q := by
  pointwise [k0_pay15, k0_pay14, pc]

/-- One step of the accumulation at an element. -/
theorem pay16_at (a v e w v' e' w') (r : Fin 128) (q : Fin 256) :
    k0_pay16 (F := Ideal) a v e w v' e' w' (ix2 r q) = a (ix2 r q) + pc v e w r q + pc v' e' w' r q := by
  pointwise [k0_pay16, pc]

/-- One step of the accumulation at an element. -/
theorem pay18_at (a v e w) (r : Fin 128) (q : Fin 256) : k0_pay18 (F := Ideal) a v e w (ix2 r q) = a (ix2 r q) + pc v e w r q := by
  pointwise [k0_pay18, pc]

/-- One step of the accumulation at an element. -/
theorem pay19_at (a v e w v' e' w') (r : Fin 128) (q : Fin 256) :
    k0_pay19 (F := Ideal) a v (k0_pay17 e) w v' e' w' (ix2 r q) = a (ix2 r q) + pc v e w r q + pc v' e' w' r q := by
  pointwise [k0_pay19, k0_pay17, pc]

/-- One step of the accumulation at an element. -/
theorem pay21_at (a v e w v' e' w') (r : Fin 128) (q : Fin 256) :
    k0_pay21 (F := Ideal) a (k0_pay20 v e w) v' e' w' (ix2 r q) = a (ix2 r q) + pc v e w r q + pc v' e' w' r q := by
  pointwise [k0_pay21, k0_pay20, pc]

/-- One step of the accumulation at an element. -/
theorem pay22_at (a v e w v' e' w') (r : Fin 128) (q : Fin 256) :
    k0_pay22 (F := Ideal) a v e w v' e' w' (ix2 r q) = a (ix2 r q) + pc v e w r q + pc v' e' w' r q := by
  pointwise [k0_pay22, pc]

/-- The block after the one in row `r`, the last row's being the first. -/
abbrev nxt (r : Fin 128) : Fin 128 := ⟨(r.val + 128 - 127) % 128, Nat.mod_lt _ (by decide)⟩

/-- One step of the accumulation at an element. -/
theorem pay24_at (a b v e w e' w' u f x f' x') (r : Fin 128) (q : Fin 256) :
    k0_pay24 (F := Ideal) a b v (k0_pay23 v e) w e' w' u f x f' x' (ix2 r q)
    = a (ix2 r q) + pc v e w r q + pc u f x r q
      + (b (ix2 (nxt r) q) + pc v e' w' (nxt r) q + pc u f' x' (nxt r) q) := by
  pointwise [k0_pay24, k0_pay23, pc, nxt]

/-- One step of the accumulation at an element. -/
theorem pay25_at (a b v g w e' w' u f x f' x') (r : Fin 128) (q : Fin 256) :
    k0_pay25 (F := Ideal) a b v g w e' w' u f x f' x' (ix2 r q)
    = k0_pay24 (F := Ideal) a b v g w e' w' u f x f' x' (ix2 r q) * (k0_pay24 (F := Ideal) a b v g w e' w' u f x f' x' (ix2 r q)
      * k0_pay24 (F := Ideal) a b v g w e' w' u f x f' x' (ix2 r q)) := by
  unfold k0_pay25
  generalize k0_pay24 (F := Ideal) a b v g w e' w' u f x f' x' = h
  pointwise

/-- The activation, as both programs write it. -/
def act (h : EReal) : EReal :=
  h * (Ideal.ofBits .f32 0x3F000000#32 * (1 + Ideal.tanh (Ideal.ofBits .f32 0x3F4C422A#32
    * (h + Ideal.ofBits .f32 0x3D372713#32 * (h * (h * h))))))

/-- The activation and the second product at an element. -/
theorem pay1_at (a b : FVec Ideal S128x256 .f32) (w : FVec Ideal S1x256x128 .f32) (r d : Fin 128)
    (hb : ∀ q : Fin 256, b (ix2 r q) = a (ix2 r q) * (a (ix2 r q) * a (ix2 r q))) :
    k0_pay1 (F := Ideal) a b w (ix5 0 0 0 r d) = ∑ q : Fin 256, act (a (ix2 r q)) * w (ix3 0 q d) := by
  pointwise [k0_pay1, act, hb]

/-- The position `l`'s row of every block of sixteen. -/
def rowsAt (x : Vec Ideal S2048x128 .f32) (l : ℕ) : FVec Ideal S128x128 .f32 :=
  fun j => x (ix2 ⟨(16 * (j 0).val + l) % 2048, Nat.mod_lt _ (by decide)⟩ ⟨(j 1).val, (j 1).isLt⟩)

/-- The position `l`'s encoding. -/
def encAt (x : Vec Ideal S1x32x128 .f32) (l : ℕ) : FVec Ideal S1x1x128 .f32 :=
  fun j => x (ix3 0 ⟨l % 32, Nat.mod_lt _ (by decide)⟩ ⟨(j 2).val, (j 2).isLt⟩)

/-- The position `l`'s slice of the weight. -/
def sliceAt (x : Vec Ideal S1x4096x256 .f32) (l : ℕ) : FVec Ideal S1x128x256 .f32 :=
  fun j => x (ix3 0 ⟨(128 * l + (j 1).val) % 4096, Nat.mod_lt _ (by decide)⟩ ⟨(j 2).val, (j 2).isLt⟩)

/-- A strided load of the rows of one position. -/
theorem load_rows (a : Memref sig .tc .vmem S2048x128 .f32) (ha : a.IsWhole) (x : Vec Ideal S2048x128 .f32) (l : ℕ) (hl : l < 16) (h) :
    View.readAt (Elt Ideal) a.view (⟨![l, 0], ![128, 128], ![16, 1], h⟩ : LoadRect S2048x128) (ha.unread x) = rowsAt x l := by
  funext j
  refine (Memref.IsWhole.readAt_unread ha x _ j).trans ?_
  refine congrArg x (funext fun a => Fin.ext ?_)
  have h0 : (j 0).val < 128 := (j 0).isLt
  fin_cases a
  · show l + 16 * (j 0).val = (16 * (j 0).val + l) % 2048
    omega
  · show 0 + 1 * (j 1).val = (j 1).val
    omega

/-- A load of one position's encoding. -/
theorem load_enc (x : Vec Ideal S1x32x128 .f32) (l : ℕ) (hl : l < 32) (h) :
    View.ld x (Rect.unit (s := S1x32x128) ![0, l, 0] ![1, 1, 128] h) = encAt x l := by
  funext j
  refine congrArg x (funext fun a => Fin.ext ?_)
  have h0 : (j 0).val < 1 := (j 0).isLt
  have h1 : (j 1).val < 1 := (j 1).isLt
  fin_cases a
  · show 0 + 1 * (j 0).val = 0
    omega
  · show l + 1 * (j 1).val = l % 32
    omega
  · show 0 + 1 * (j 2).val = (j 2).val
    omega

/-- A load of one position's slice of the weight. -/
theorem load_slice (x : Vec Ideal S1x4096x256 .f32) (o : ℕ) (ho : o % 128 = 0 ∧ o < 4096) (h) :
    View.ld x (Rect.unit (s := S1x4096x256) ![0, o, 0] ![1, 128, 256] h) = sliceAt x (o / 128) := by
  funext j
  refine congrArg x (funext fun a => Fin.ext ?_)
  have h0 : (j 0).val < 1 := (j 0).isLt
  have h1 : (j 1).val < 128 := (j 1).isLt
  fin_cases a
  · show 0 + 1 * (j 0).val = 0
    omega
  · show o + 1 * (j 1).val = (128 * (o / 128) + (j 1).val) % 4096
    omega
  · show 0 + 1 * (j 2).val = (j 2).val
    omega

section Block

variable (A : ℕ → FVec Ideal S128x128 .f32) (E : ℕ → FVec Ideal S1x1x128 .f32) (W : ℕ → FVec Ideal S1x128x256 .f32)

/-- The products of the first sixteen positions but the last two, added up in turn. -/
def top : FVec Ideal S128x256 .f32 :=
  k0_pay21 (k0_pay18 (k0_pay16 (k0_pay13 (k0_pay10 (k0_pay7 (k0_pay4 (k0_pay3 (A 0) (E 0) (W 0) (A 1) (E 1) (W 1)) (A 2) (E 2) (W 2))
    (k0_pay6 (A 3) (E 3)) (W 3) (A 4) (E 4) (W 4)) (A 5) (k0_pay9 (E 5)) (W 5) (A 6) (E 6) (W 6)) (A 7) (E 7) (W 7) (A 8) (E 8) (W 8))
    (A 9) (E 9) (W 9) (A 10) (E 10) (W 10)) (A 11) (E 11) (W 11)) (k0_pay20 (A 12) (E 12) (W 12)) (A 13) (E 13) (W 13)

/-- The products of the second sixteen positions but the last two, added up in turn. -/
def bot : FVec Ideal S128x256 .f32 :=
  k0_pay22 (k0_pay19 (k0_pay15 (k0_pay12 (k0_pay11 (k0_pay8 (k0_pay5 (k0_pay2 (A 0) (E 16) (W 16)) (A 1) (E 17) (W 17) (A 2) (E 18) (W 18))
    (A 3) (E 19) (W 19) (A 4) (E 20) (W 20)) (A 5) (E 21) (W 21) (A 6) (E 22) (W 22)) (A 7) (E 23) (W 23)) (k0_pay14 (A 8) (E 24)) (W 24)
    (A 9) (E 25) (W 25)) (A 10) (k0_pay17 (E 26)) (W 26) (A 11) (E 27) (W 27)) (A 12) (E 28) (W 28) (A 13) (E 29) (W 29)

/-- The first product. -/
def hid : FVec Ideal S128x256 .f32 :=
  k0_pay24 (top A E W) (bot A E W) (A 14) (k0_pay23 (A 14) (E 14)) (W 14) (E 30) (W 30) (A 15) (E 15) (W 15) (E 31) (W 31)

/-- The stored block. -/
def blk (W2 : FVec Ideal S1x256x128 .f32) : FVec Ideal S1x1x1x128x128 .f32 :=
  k0_pay1 (hid A E W) (k0_pay25 (top A E W) (bot A E W) (A 14) (k0_pay23 (A 14) (E 14)) (W 14) (E 30) (W 30) (A 15) (E 15) (W 15) (E 31) (W 31)) W2

/-- The products at a row itself, before the last two positions. -/
theorem top_at (r : Fin 128) (q : Fin 256) : top A E W (ix2 r q) = ∑ l ∈ Finset.range 14, pc (A l) (E l) (W l) r q := by
  simp only [top, pay21_at, pay18_at, pay16_at, pay13_at, pay10_at, pay7_at, pay4_at, pay3_at, Finset.sum_range_succ, Finset.sum_range_zero,
    zero_add]

/-- The products at the next row, before the last two positions. -/
theorem bot_at (r : Fin 128) (q : Fin 256) :
    bot A E W (ix2 r q) = ∑ l ∈ Finset.range 14, pc (A l) (E (16 + l)) (W (16 + l)) r q := by
  simp only [bot, pay22_at, pay19_at, pay15_at, pay12_at, pay11_at, pay8_at, pay5_at, pay2_at, Finset.sum_range_succ, Finset.sum_range_zero,
    zero_add, Nat.reduceAdd]

/-- The first product at an element: the row's own 16 positions and the next row's. -/
theorem hid_at (r : Fin 128) (q : Fin 256) :
    hid A E W (ix2 r q) = ∑ l ∈ Finset.range 16, pc (A l) (E l) (W l) r q
      + ∑ l ∈ Finset.range 16, pc (A l) (E (16 + l)) (W (16 + l)) (nxt r) q := by
  rw [Finset.sum_range_succ _ 15, Finset.sum_range_succ _ 14, Finset.sum_range_succ _ 15, Finset.sum_range_succ _ 14, ← top_at, ← bot_at]
  exact pay24_at _ _ _ _ _ _ _ _ _ _ _ _ r q

/-- The stored block at an element. -/
theorem blk_at (W2 : FVec Ideal S1x256x128 .f32) (r d : Fin 128) :
    blk A E W W2 (ix5 0 0 0 r d) = ∑ q : Fin 256, act (hid A E W (ix2 r q)) * W2 (ix3 0 q d) :=
  pay1_at _ _ _ r d fun q => pay25_at _ _ _ _ _ _ _ _ _ _ _ _ r q

end Block

/-- The first product of a block of rows at a block that has a next one, position by position. -/
theorem hid_sum (X : Vec Ideal S2048x128 .f32) (e : Vec Ideal S1x32x128 .f32) (w : Vec Ideal S1x4096x256 .f32) (r : Fin 127) (q : Fin 256) :
    hid (rowsAt X) (encAt e) (sliceAt w) (ix2 ⟨r.val, by omega⟩ q)
    = ∑ l : Fin 32, ∑ k : Fin 128, (X (ix2 ⟨16 * r.val + l.val, by omega⟩ k) + e (ix3 0 l k)) * w (ix3 0 ⟨128 * l.val + k.val, by omega⟩ q) := by
  set H : ℕ → EReal := fun l => ∑ k : Fin 128, (X (ix2 ⟨(16 * r.val + l) % 2048, Nat.mod_lt _ (by decide)⟩ k)
    + e (ix3 0 ⟨l % 32, Nat.mod_lt _ (by decide)⟩ k)) * w (ix3 0 ⟨(128 * l + k.val) % 4096, Nat.mod_lt _ (by decide)⟩ q) with hH
  have h1 : ∀ l ∈ Finset.range 16, pc (rowsAt X l) (encAt e l) (sliceAt w l) ⟨r.val, by omega⟩ q = H l := fun l _ => rfl
  have h2 : ∀ l ∈ Finset.range 16, pc (rowsAt X l) (encAt e (16 + l)) (sliceAt w (16 + l)) (nxt ⟨r.val, by omega⟩) q = H (16 + l) := by
    intro l hl
    refine Finset.sum_congr rfl fun k _ => ?_
    refine congrArg (fun p => (X (ix2 p k) + e (ix3 0 ⟨(16 + l) % 32, Nat.mod_lt _ (by decide)⟩ k))
      * w (ix3 0 ⟨(128 * (16 + l) + k.val) % 4096, Nat.mod_lt _ (by decide)⟩ q)) (Fin.ext ?_)
    show (16 * ((r.val + 128 - 127) % 128) + l) % 2048 = (16 * r.val + (16 + l)) % 2048
    omega
  rw [hid_at, Finset.sum_congr rfl h1, Finset.sum_congr rfl h2, ← Finset.sum_range_add H 16 16, Finset.sum_range]
  refine Finset.sum_congr rfl fun l _ => Finset.sum_congr rfl fun k _ => ?_
  have a1 : (16 * r.val + l.val) % 2048 = 16 * r.val + l.val := by omega
  have a2 : l.val % 32 = l.val := by omega
  have a3 : (128 * l.val + k.val) % 4096 = 128 * l.val + k.val := by omega
  simp only [a1, a2, a3]

end Cert.Proof.Compression

end
-- ==== Proof.CmpRef.lean ====
module

public import Idealize.ShloMosaic.Lib.Pipeline.ValueKit
public import Idealize.ShloMosaic.Lib.Pointwise
public import Idealize.ShloMosaic.Lib.KernelVsHost
public import proofs.«01_k».proof.Proof.CmpPay
public import proofs.«01_k».proof.Proof.Gen.Reference4Ideal.Read

/-!
  The compression's reference at an element: for keys and values alike, a sum over the block's 32 positions and 128
  lanes, the activation, and a sum over the hidden columns.
-/

@[expose] public section

set_option maxRecDepth 16384

noncomputable section

namespace Cert.Proof.Compression.Ref

open Idealize.ShloMosaic Idealize.ShloMosaic.TcCoe Idealize.SL.Sem
open Cert.Reference4Ideal Cert.Reference4Ideal.Gen Cert.Reference4Ideal.Read

/-- The rows in blocks of sixteen positions. -/
def halves (a : FVec Ideal S8x2048x2x128 .f32) : FVec Ideal S8x128x16x2x128 .f32 :=
  shapeCast _ a shapeCasts_S8x2048x2x128_S8x128x16x2x128

/-- Every block side by side with the next one. -/
def pairs (h : FVec Ideal S8x128x16x2x128 .f32) : FVec Ideal S8x127x32x2x128 .f32 :=
  concatenate S8x127x32x2x128 2 [⟨S8x127x16x2x128, extractStridedSlice S8x127x16x2x128 ![0, 0, 0, 0, 0] h slices_S8x128x16x2x128_S8x127x16x2x128_0_0_0_0_0⟩, ⟨S8x127x16x2x128, extractStridedSlice S8x127x16x2x128 ![0, 1, 0, 0, 0] h slices_S8x128x16x2x128_S8x127x16x2x128_0_1_0_0_0⟩] concatenates_S8x127x16x2x128_S8x127x16x2x128_S8x127x32x2x128_d2

/-- The blocks of 32 positions, each position shifted by its encoding, as rows of 4096 numbers. -/
def rows (a : FVec Ideal S8x127x32x2x128 .f32) (pe : FVec Ideal S32x128 .f32) : FVec Ideal S8x127x2x4096 .f32 :=
  shapeCast _ (transpose S8x127x2x32x128 [0, 1, 3, 2, 4] (addf (F := Ideal) a
    (broadcastInDim S8x127x32x2x128 ![0, 1, 2, 3, 4] bcast_S1x1x32x1x128_S8x127x32x2x128_0_1_2_3_4
      (broadcastInDim S1x1x32x1x128 ![2, 3, 4] bcast_S32x1x128_S1x1x32x1x128_2_3_4
        (broadcastInDim S32x1x128 ![0, 2] bcast_S32x128_S32x1x128_0_2 pe))))
    transposes_S8x127x32x2x128_S8x127x2x32x128_0_1_3_2_4) shapeCasts_S8x127x2x32x128_S8x127x2x4096

/-- The first product. -/
def hidden (x : FVec Ideal S8x127x2x4096 .f32) (w1 : FVec Ideal S4096x256 .f32) : FVec Ideal S8x127x2x256 .f32 :=
  Host.dotGeneral (F := Ideal) dot_S8x127x2x4096_S4096x256_S8x127x2x256_3_0_012_1_n_n none x w1

/-- The activation of the whole array. -/
def acts (h : FVec Ideal S8x127x2x256 .f32) : FVec Ideal S8x127x2x256 .f32 :=
  mulf (F := Ideal) h (mulf (F := Ideal) (val_main_v32 (F := Ideal)) (addf (F := Ideal) (val_main_v30 (F := Ideal))
    (Host.tanh (F := Ideal) (mulf (F := Ideal) (val_main_v27 (F := Ideal)) (addf (F := Ideal) h
      (mulf (F := Ideal) (val_main_v24 (F := Ideal)) (mulf (F := Ideal) (mulf (F := Ideal) h h) h)))))))

/-- The compressed blocks. -/
def out (h : FVec Ideal S8x127x2x256 .f32) (w2 : FVec Ideal S256x128 .f32) : FVec Ideal S8x127x2x128 .f32 :=
  Host.dotGeneral (F := Ideal) dot_S8x127x2x256_S256x128_S8x127x2x128_3_0_012_1_n_n none (acts h) w2

/-- The reference's compressed keys as the composition of its steps. -/
theorem v35_eq (x pe w1 w2) : val_main_v35 (F := Ideal) x pe w1 w2
    = out (hidden (rows (pairs (halves (val_main_v4 (F := Ideal) x))) (val_main_v6 (F := Ideal) pe)) (val_main_v8 (F := Ideal) w1)) (val_main_v10 (F := Ideal) w2) := rfl

/-- The reference's compressed values as the same composition. -/
theorem v68_eq (x pe w1 w2) : val_main_v68 (F := Ideal) x pe w1 w2
    = out (hidden (rows (pairs (halves (val_main_v37 (F := Ideal) x))) (val_main_v39 (F := Ideal) pe)) (val_main_v41 (F := Ideal) w1)) (val_main_v43 (F := Ideal) w2) := rfl

/-- Half blocks at an element. -/
theorem halves_at (a : FVec Ideal S8x2048x2x128 .f32) (b : Fin 8) (r : Fin 128) (l : Fin 16) (g : Fin 2) (k : Fin 128) :
    halves a (ix5 b r l g k) = a (ix4 b ⟨r.val * 16 + l.val, by omega⟩ g k) := by
  pointwise [halves]

/-- A block's two halves at an element. -/
theorem pairs_at (h : FVec Ideal S8x128x16x2x128 .f32) (b : Fin 8) (r : Fin 127) (l : Fin 32) (g : Fin 2) (k : Fin 128) :
    pairs h (ix5 b r l g k) = if hl : l.val < 16 then h (ix5 b ⟨r.val, by omega⟩ ⟨l.val, hl⟩ g k)
      else h (ix5 b ⟨1 + r.val, by omega⟩ ⟨l.val - 16, by omega⟩ g k) := by
  pointwise [pairs]

/-- A flattened block at an element. -/
theorem rows_at (a : FVec Ideal S8x127x32x2x128 .f32) (pe : FVec Ideal S32x128 .f32) (b : Fin 8) (r : Fin 127) (g : Fin 2) (k : Fin 4096) :
    rows a pe (ix4 b r g k) = a (ix5 b r ⟨k.val / 128, by omega⟩ g ⟨k.val % 128, by omega⟩)
      + pe (ix2 ⟨k.val / 128, by omega⟩ ⟨k.val % 128, by omega⟩) := by
  pointwise [rows]

/-- The first product at an element. -/
theorem hidden_at (x : FVec Ideal S8x127x2x4096 .f32) (w1 : FVec Ideal S4096x256 .f32) (b : Fin 8) (r : Fin 127) (g : Fin 2) (q : Fin 256) :
    hidden x w1 (ix4 b r g q) = ∑ k : Fin 4096, x (ix4 b r g k) * w1 (ix2 k q) := by
  pointwise [hidden]

/-- The activation at an element. -/
theorem acts_at (h : FVec Ideal S8x127x2x256 .f32) (b : Fin 8) (r : Fin 127) (g : Fin 2) (q : Fin 256) :
    acts h (ix4 b r g q) = act (h (ix4 b r g q)) := by
  pointwise [acts, act, val_main_v32, val_main_v30, val_main_v27, val_main_v24, val_main_cst, val_main_cst_0, val_main_cst_1, val_main_cst_2, mul_assoc]

/-- The second product at an element. -/
theorem out_at (h : FVec Ideal S8x127x2x256 .f32) (w2 : FVec Ideal S256x128 .f32) (b : Fin 8) (r : Fin 127) (g : Fin 2) (d : Fin 128) :
    out h w2 (ix4 b r g d) = ∑ q : Fin 256, act (h (ix4 b r g q)) * w2 (ix2 q d) := by
  simp only [← acts_at]
  unfold out
  generalize acts h = a
  pointwise []

/-- The projected keys at an element. -/
theorem v4_at (x : FVec Ideal S16384x6144 .f32) (b : Fin 8) (p : Fin 2048) (g : Fin 2) (k : Fin 128) :
    val_main_v4 (F := Ideal) x (ix4 b p g k) = x (ix2 ⟨b.val * 2048 + p.val, by omega⟩ ⟨4096 + (g.val * 128 + k.val), by omega⟩) := by
  pointwise [val_main_v4, val_main_v3, val_main_v2, val_main_v1, val_main_v0]

/-- The projected values at an element. -/
theorem v37_at (x : FVec Ideal S16384x6144 .f32) (b : Fin 8) (p : Fin 2048) (g : Fin 2) (k : Fin 128) :
    val_main_v37 (F := Ideal) x (ix4 b p g k) = x (ix2 ⟨b.val * 2048 + p.val, by omega⟩ ⟨4096 + (256 + g.val * 128 + k.val), by omega⟩) := by
  pointwise [val_main_v37, val_main_v36, val_main_v2, val_main_v1, val_main_v0]

/-- The keys' encodings. -/
theorem v6_at (x : FVec Ideal S1x2x32x128 .f32) (l : Fin 32) (k : Fin 128) : val_main_v6 (F := Ideal) x (ix2 l k) = x (ix4 0 0 l k) := by
  pointwise [val_main_v6, val_main_v5]
/-- The values' encodings. -/
theorem v39_at (x : FVec Ideal S1x2x32x128 .f32) (l : Fin 32) (k : Fin 128) : val_main_v39 (F := Ideal) x (ix2 l k) = x (ix4 0 1 l k) := by
  pointwise [val_main_v39, val_main_v38]
/-- The keys' first weight. -/
theorem v8_at (x : FVec Ideal S1x2x4096x256 .f32) (k : Fin 4096) (q : Fin 256) : val_main_v8 (F := Ideal) x (ix2 k q) = x (ix4 0 0 k q) := by
  pointwise [val_main_v8, val_main_v7]
/-- The values' first weight. -/
theorem v41_at (x : FVec Ideal S1x2x4096x256 .f32) (k : Fin 4096) (q : Fin 256) : val_main_v41 (F := Ideal) x (ix2 k q) = x (ix4 0 1 k q) := by
  pointwise [val_main_v41, val_main_v40]
/-- The keys' second weight. -/
theorem v10_at (x : FVec Ideal S1x2x256x128 .f32) (q : Fin 256) (d : Fin 128) : val_main_v10 (F := Ideal) x (ix2 q d) = x (ix4 0 0 q d) := by
  pointwise [val_main_v10, val_main_v9]
/-- The values' second weight. -/
theorem v43_at (x : FVec Ideal S1x2x256x128 .f32) (q : Fin 256) (d : Fin 128) : val_main_v43 (F := Ideal) x (ix2 q d) = x (ix4 0 1 q d) := by
  pointwise [val_main_v43, val_main_v42]

/-- The reference's result at a block: keys in stream 0, values in stream 1. -/
theorem v73_at (x pe w1 w2) (b : Fin 8) (s g : Fin 2) (r : Fin 127) (d : Fin 128) :
    val_main_v73 (F := Ideal) x pe w1 w2 (ix5 b s g ⟨r.val, by omega⟩ d)
    = if s.val < 1 then val_main_v35 (F := Ideal) x pe w1 w2 (ix4 b r g d) else val_main_v68 (F := Ideal) x pe w1 w2 (ix4 b r g d) := by
  unfold val_main_v73 val_main_v72 val_main_v71 val_main_v70 val_main_v69
  generalize val_main_v35 (F := Ideal) x pe w1 w2 = u
  generalize val_main_v68 (F := Ideal) x pe w1 w2 = v
  pointwise []
  split <;> rfl

/-- A sum over rows of 4096 numbers, position by position. -/
theorem sum_rows (f : Fin 4096 → EReal) :
    ∑ n : Fin 4096, f n = ∑ l : Fin 32, ∑ k : Fin 128, f ⟨128 * l.val + k.val, by omega⟩ := by
  refine (Equiv.sum_comp (finProdFinEquiv (m := 32) (n := 128)) f).symm.trans ((Fintype.sum_prod_type _).trans ?_)
  refine Finset.sum_congr rfl fun l _ => Finset.sum_congr rfl fun k _ => congrArg f (Fin.ext ?_)
  show k.val + 128 * l.val = 128 * l.val + k.val
  omega

/-- The first product at an element, position by position. -/
theorem hidden_sum (a : FVec Ideal S8x2048x2x128 .f32) (pe : FVec Ideal S32x128 .f32) (w1 : FVec Ideal S4096x256 .f32)
    (b : Fin 8) (r : Fin 127) (g : Fin 2) (q : Fin 256) :
    hidden (rows (pairs (halves a)) pe) w1 (ix4 b r g q)
    = ∑ l : Fin 32, ∑ k : Fin 128, (a (ix4 b ⟨16 * r.val + l.val, by omega⟩ g k) + pe (ix2 l k)) * w1 (ix2 ⟨128 * l.val + k.val, by omega⟩ q) := by
  rw [hidden_at, sum_rows]
  refine Finset.sum_congr rfl fun l _ => Finset.sum_congr rfl fun k _ => ?_
  have hl : (128 * l.val + k.val) / 128 = l.val := by omega
  have hk : (128 * l.val + k.val) % 128 = k.val := by omega
  rw [rows_at, pairs_at]
  simp only [hl, hk, halves_at]
  have e : (if h : l.val < 16 then a (ix4 b ⟨r.val * 16 + l.val, by omega⟩ g k)
      else a (ix4 b ⟨(1 + r.val) * 16 + (l.val - 16), by omega⟩ g k)) = a (ix4 b ⟨16 * r.val + l.val, by omega⟩ g k) := by
    split
    · exact congrArg a (congrArg (fun p => ix4 b p g k) (Fin.ext (by show r.val * 16 + l.val = 16 * r.val + l.val; omega)))
    · exact congrArg a (congrArg (fun p => ix4 b p g k) (Fin.ext (by show (1 + r.val) * 16 + (l.val - 16) = 16 * r.val + l.val; omega)))
  exact congrArg (fun u => (u + pe (ix2 l k)) * w1 (ix2 ⟨128 * l.val + k.val, by omega⟩ q)) e

end Cert.Proof.Compression.Ref

end
-- ==== Proof.CmpValue.lean ====
module

public import proofs.«01_k».proof.Defs
public import proofs.«01_k».proof.Proof.CmpPay
public import proofs.«01_k».proof.Proof.CmpRef
public import proofs.«01_k».proof.Proof.Gen.Reference4Ideal.Run
public import proofs.«01_k».proof.Proof.Gen.On_compressed_blocks
public import Idealize.ShloMosaic.Lib.StableHlo.ReadAt
public import Idealize.ShloMosaic.Lib.Claim

/-!
  The compression's result array and its value claim: every grid point stores the compressed blocks of one sequence,
  stream and group, and all of them but the last are the reference's.
-/

@[expose] public section

set_option maxRecDepth 16384

noncomputable section

namespace Cert.Proof.Compression

open Idealize.ShloMosaic Idealize.ShloMosaic.TcCoe Idealize.SL.Sem
open Idealize.ShloMosaic.Pipeline (Dat)
open Cert.Kernel4Ideal Cert.Kernel4Ideal.Gen

/-- The columns of one sequence, stream and group. -/
def colsOf (x : FVec Ideal S16384x6144 .f32) (b : Fin 8) (s g : Fin 2) : Vec Ideal S2048x128 .f32 :=
  fun j => x (ix2 ⟨b.val * 2048 + (j 0).val, by have : (j 0).val < 2048 := (j 0).isLt; omega⟩
    ⟨4096 + (256 * s.val + g.val * 128 + (j 1).val), by have : (j 1).val < 128 := (j 1).isLt; omega⟩)

/-- One stream's encodings. -/
def encOf (x : FVec Ideal S1x2x32x128 .f32) (s : Fin 2) : Vec Ideal S1x32x128 .f32 :=
  fun j => x (ix4 0 s ⟨(j 1).val, (j 1).isLt⟩ ⟨(j 2).val, (j 2).isLt⟩)

/-- One stream's first weight. -/
def w1Of (x : FVec Ideal S1x2x4096x256 .f32) (s : Fin 2) : Vec Ideal S1x4096x256 .f32 :=
  fun j => x (ix4 0 s ⟨(j 1).val, (j 1).isLt⟩ ⟨(j 2).val, (j 2).isLt⟩)

/-- One stream's second weight. -/
def w2Of (x : FVec Ideal S1x2x256x128 .f32) (s : Fin 2) : Vec Ideal S1x256x128 .f32 :=
  fun j => x (ix4 0 s ⟨(j 1).val, (j 1).isLt⟩ ⟨(j 2).val, (j 2).isLt⟩)

/-- The kernel's whole result, block by block. -/
def kout (x : FVec Ideal S16384x6144 .f32) (pe : FVec Ideal S1x2x32x128 .f32) (w1 : FVec Ideal S1x2x4096x256 .f32)
    (w2 : FVec Ideal S1x2x256x128 .f32) : FVec Ideal S8x2x2x128x128 .f32 :=
  fun i => blk (rowsAt (colsOf x (i 0) (i 1) (i 2))) (encAt (encOf pe (i 1))) (sliceAt (w1Of w1 (i 1))) (w2Of w2 (i 1)) (ix5 0 0 0 (i 3) (i 4))

/-- The columns at an element. -/
theorem colsOf_at (x : FVec Ideal S16384x6144 .f32) (b : Fin 8) (s g : Fin 2) (p : Fin 2048) (k : Fin 128) :
    colsOf x b s g (ix2 p k) = x (ix2 ⟨b.val * 2048 + p.val, by omega⟩ ⟨4096 + (256 * s.val + g.val * 128 + k.val), by omega⟩) := rfl

/-- The kernel's result at a block that has a next one, as sums. -/
theorem kout_sum (x : FVec Ideal S16384x6144 .f32) (pe : FVec Ideal S1x2x32x128 .f32) (w1 : FVec Ideal S1x2x4096x256 .f32)
    (w2 : FVec Ideal S1x2x256x128 .f32) (b : Fin 8) (s g : Fin 2) (r : Fin 127) (d : Fin 128) :
    kout x pe w1 w2 (ix5 b s g ⟨r.val, by omega⟩ d)
    = ∑ q : Fin 256, act (∑ l : Fin 32, ∑ k : Fin 128, (colsOf x b s g (ix2 ⟨16 * r.val + l.val, by omega⟩ k) + pe (ix4 0 s l k))
        * w1 (ix4 0 s ⟨128 * l.val + k.val, by omega⟩ q)) * w2 (ix4 0 s q d) := by
  refine (blk_at (rowsAt (colsOf x b s g)) (encAt (encOf pe s)) (sliceAt (w1Of w1 s)) (w2Of w2 s) ⟨r.val, by omega⟩ d).trans ?_
  simp only [hid_sum]
  rfl

/-- The kernel's result at an element. -/
theorem kout_at (x : FVec Ideal S16384x6144 .f32) (pe : FVec Ideal S1x2x32x128 .f32) (w1 : FVec Ideal S1x2x4096x256 .f32)
    (w2 : FVec Ideal S1x2x256x128 .f32) (b : Fin 8) (s g : Fin 2) (r : Fin 128) (d : Fin 128) :
    kout x pe w1 w2 (ix5 b s g r d)
    = blk (rowsAt (colsOf x b s g)) (encAt (encOf pe s)) (sliceAt (w1Of w1 s)) (w2Of w2 s) (ix5 0 0 0 r d) := rfl

open Cert.Reference4Ideal.Read in
/-- Where a block has a next one, the kernel's result is the reference's. -/
theorem kout_eq (x : FVec Ideal S16384x6144 .f32) (pe : FVec Ideal S1x2x32x128 .f32) (w1 : FVec Ideal S1x2x4096x256 .f32)
    (w2 : FVec Ideal S1x2x256x128 .f32) (b : Fin 8) (s g : Fin 2) (r : Fin 127) (d : Fin 128) :
    kout x pe w1 w2 (ix5 b s g ⟨r.val, by omega⟩ d) = val_main_v73 (F := Ideal) x pe w1 w2 (ix5 b s g ⟨r.val, by omega⟩ d) := by
  rw [kout_sum, Ref.v73_at]
  match s with
  | 0 =>
    rw [if_pos (by decide), Ref.v35_eq, Ref.out_at]
    refine Finset.sum_congr rfl fun q _ => ?_
    rw [Ref.hidden_sum, Ref.v10_at]
    refine congrArg (fun h => act h * w2 (ix4 0 0 q d)) (Finset.sum_congr rfl fun l _ => Finset.sum_congr rfl fun k _ => ?_)
    rw [Ref.v4_at, Ref.v6_at, Ref.v8_at, colsOf_at]
    refine congrArg (fun h => (x h + pe (ix4 0 0 l k)) * w1 (ix4 0 0 ⟨128 * l.val + k.val, by omega⟩ q)) (congrArg (ix2 _) (Fin.ext ?_))
    show 4096 + (256 * 0 + g.val * 128 + k.val) = 4096 + (g.val * 128 + k.val)
    omega
  | 1 =>
    rw [if_neg (by decide), Ref.v68_eq, Ref.out_at]
    refine Finset.sum_congr rfl fun q _ => ?_
    rw [Ref.hidden_sum, Ref.v43_at]
    refine congrArg (fun h => act h * w2 (ix4 0 1 q d)) (Finset.sum_congr rfl fun l _ => Finset.sum_congr rfl fun k _ => ?_)
    rw [Ref.v37_at, Ref.v39_at, Ref.v41_at, colsOf_at]
    refine congrArg (fun h => (x h + pe (ix4 0 1 l k)) * w1 (ix4 0 1 ⟨128 * l.val + k.val, by omega⟩ q)) (congrArg (ix2 _) (Fin.ext ?_))
    show 4096 + (256 * 1 + g.val * 128 + k.val) = 4096 + (256 + g.val * 128 + k.val)
    omega

variable (m : (ℓ : Loc nD τ sig) → Buf (Elt Ideal) ℓ)

/-- Where each window's block sits at each grid point. -/
theorem idx : ∀ t : Fin cfg0.N, win0_0.index t = ![t.val / 4, 32 + t.val % 4] ∧ win0_1.index t = ![t.val / 2 % 2, 0, 0]
    ∧ win0_2.index t = ![t.val / 2 % 2, 0, 0] ∧ win0_3.index t = ![t.val / 2 % 2, 0, 0]
    ∧ win0_4.index t = ![t.val / 4, t.val / 2 % 2, t.val % 2, 0, 0] :=
  (by decide +kernel : ∀ t : Fin grid0.N, _)

/-- The projection as the launch finds it. -/
abbrev proj (c : Dev nD) : FVec Ideal S16384x6144 .f32 := m (c, Proc.tc.devRef main_arg0)

/-- The encodings as the launch finds them. -/
abbrev enc (c : Dev nD) : FVec Ideal S1x2x32x128 .f32 := m (c, Proc.tc.devRef main_arg1)

/-- The first weights as the launch finds them. -/
abbrev wa (c : Dev nD) : FVec Ideal S1x2x4096x256 .f32 := m (c, Proc.tc.devRef main_arg2)

/-- The second weights as the launch finds them. -/
abbrev wb (c : Dev nD) : FVec Ideal S1x2x256x128 .f32 := m (c, Proc.tc.devRef main_arg3)

/-- The encodings as they are staged. -/
theorem enc_at (c : Dev nD) (s : Fin 2) (l : Fin 32) (k : Fin 128) :
    (V m c main_v0 : FVec Ideal S2x32x128 .f32) (ix3 s l k) = enc m c (ix4 0 s l k) := by
  unfold V
  after_reads_at

/-- The first weights as they are staged. -/
theorem wa_at (c : Dev nD) (s : Fin 2) (k : Fin 4096) (q : Fin 256) :
    (V m c main_v1 : FVec Ideal S2x4096x256 .f32) (ix3 s k q) = wa m c (ix4 0 s k q) := by
  unfold V
  after_reads_at

/-- The second weights as they are staged. -/
theorem wb_at (c : Dev nD) (s : Fin 2) (q : Fin 256) (d : Fin 128) :
    (V m c main_v2 : FVec Ideal S2x256x128 .f32) (ix3 s q d) = wb m c (ix4 0 s q d) := by
  unfold V
  after_reads_at

/-- A grid point's sequence. -/
abbrev seqOf (t : Fin cfg0.N) : Fin 8 := ⟨t.val / 4, by have := t.isLt; have : cfg0.N = 32 := N_0; omega⟩

/-- A grid point's stream: keys or values. -/
abbrev strOf (t : Fin cfg0.N) : Fin 2 := ⟨t.val / 2 % 2, by omega⟩

/-- A grid point's group. -/
abbrev grpOf (t : Fin cfg0.N) : Fin 2 := ⟨t.val % 2, by omega⟩

/-- The staged columns. -/
theorem blk_cols_at (c : Dev nD) (t : Fin cfg0.N) (p : Fin 2048) (k : Fin 128) :
    (iblk m c 0 t : FVec Ideal S2048x128 .f32) (ix2 p k) = (V m c main_arg0 : FVec Ideal S16384x6144 .f32)
      (ix2 ⟨t.val / 4 * 2048 + p.val, by have := t.isLt; have : cfg0.N = 32 := N_0; omega⟩
        ⟨4096 + (256 * (t.val / 2 % 2) + t.val % 2 * 128 + k.val), by omega⟩) := by
  have hN : cfg0.N = 32 := N_0
  have ht := t.isLt
  blk_ext! [iblk, idx t]

/-- The staged stream's encodings. -/
theorem blk_enc_at (c : Dev nD) (t : Fin cfg0.N) (p : Fin 32) (k : Fin 128) :
    (iblk m c 1 t : FVec Ideal S1x32x128 .f32) (ix3 0 p k) = (V m c main_v0 : FVec Ideal S2x32x128 .f32) (ix3 (strOf t) p k) := by
  have hN : cfg0.N = 32 := N_0
  have ht := t.isLt
  blk_ext! [iblk, idx t]

/-- The staged stream's first weight. -/
theorem blk_wa_at (c : Dev nD) (t : Fin cfg0.N) (p : Fin 4096) (k : Fin 256) :
    (iblk m c 2 t : FVec Ideal S1x4096x256 .f32) (ix3 0 p k) = (V m c main_v1 : FVec Ideal S2x4096x256 .f32) (ix3 (strOf t) p k) := by
  have hN : cfg0.N = 32 := N_0
  have ht := t.isLt
  blk_ext! [iblk, idx t]

/-- The staged stream's second weight. -/
theorem blk_wb_at (c : Dev nD) (t : Fin cfg0.N) (p : Fin 256) (k : Fin 128) :
    (iblk m c 3 t : FVec Ideal S1x256x128 .f32) (ix3 0 p k) = (V m c main_v2 : FVec Ideal S2x256x128 .f32) (ix3 (strOf t) p k) := by
  have hN : cfg0.N = 32 := N_0
  have ht := t.isLt
  blk_ext! [iblk, idx t]

/-- A grid point's columns are those of its sequence, stream and group. -/
theorem blk_cols (c : Dev nD) (t : Fin cfg0.N) :
    (iblk m c 0 t : FVec Ideal S2048x128 .f32) = colsOf (proj m c) (seqOf t) (strOf t) (grpOf t) := by
  funext j
  idx_vars j
  exact (blk_cols_at m c t j0 j1).trans (congrFun (V_main_arg0 m c) _)

/-- A grid point's encodings are its stream's. -/
theorem blk_enc (c : Dev nD) (t : Fin cfg0.N) : (iblk m c 1 t : FVec Ideal S1x32x128 .f32) = encOf (enc m c) (strOf t) := by
  funext j
  idx_vars j
  obtain rfl : j0 = 0 := Subsingleton.elim _ _
  exact (blk_enc_at m c t j1 j2).trans (enc_at m c (strOf t) j1 j2)

/-- A grid point's first weight are its stream's. -/
theorem blk_wa (c : Dev nD) (t : Fin cfg0.N) : (iblk m c 2 t : FVec Ideal S1x4096x256 .f32) = w1Of (wa m c) (strOf t) := by
  funext j
  idx_vars j
  obtain rfl : j0 = 0 := Subsingleton.elim _ _
  exact (blk_wa_at m c t j1 j2).trans (wa_at m c (strOf t) j1 j2)

/-- A grid point's second weight are its stream's. -/
theorem blk_wb (c : Dev nD) (t : Fin cfg0.N) : (iblk m c 3 t : FVec Ideal S1x256x128 .f32) = w2Of (wb m c) (strOf t) := by
  funext j
  idx_vars j
  obtain rfl : j0 = 0 := Subsingleton.elim _ _
  exact (blk_wb_at m c t j1 j2).trans (wb_at m c (strOf t) j1 j2)

/-- The launch's result array. -/
theorem final4 (c : Dev nD) : (dats m 0 c).arrAt 4 (cfgs 0).N = kout (proj m c) (enc m c) (wa m c) (wb m c) := by
  have hN : cfg0.N = 32 := N_0
  refine (dats m 0 c).arrAt_eq_of_covers 4 _ (by decide +kernel) fun t _ y => ?_
  have ht := t.isLt
  blk_simp
  rw [after0_4]; unfold outsAt0 out0_A_4; frame_out
  simp (disch := omega) only [load_rows, load_enc, load_slice, Nat.reduceDiv]
  rw [blk_cols, blk_enc, blk_wa, blk_wb]
  idx_vars y
  obtain rfl : y0 = 0 := Subsingleton.elim _ _
  obtain rfl : y1 = 0 := Subsingleton.elim _ _
  obtain rfl : y2 = 0 := Subsingleton.elim _ _
  have e : (((View.whole main_v3).slice (win0_4.rect t)).emb (ix5 0 0 0 y3 y4) : S8x2x2x128x128.Idx)
      = ix5 (seqOf t) (strOf t) (grpOf t) y3 y4 := by blk_ext [idx t]
  rw [e]
  rw [kout_at]
  unfold blk hid top bot
  with_reducible rfl

end Cert.Proof.Compression

namespace Cert.Proof

open Idealize.ShloMosaic Idealize.ShloMosaic.TcCoe Idealize.SL.Sem

/-- The mask holds of the blocks that have a next one. -/
theorem on_lt (x pe w1 w2) (i : (⟨5, ![8, 2, 2, 128, 128]⟩ : Shape).Idx)
    (h : Cert.On_compressed_blocks.fn (F := Ideal) x pe w1 w2 i = 1#1) : (i 3).val < 127 := by
  have h3 : (i 3).val < 128 := (i 3).isLt
  have k : IntOp.cmpi .slt (BitVec.ofNat 32 (i 3).val) 127#32 = 1#1 := h
  generalize (i 3).val = n at h3 k
  interval_cases n <;> first | omega | exact absurd k (by decide)

/-- The compression's kernel and its reference compute the same blocks. -/
theorem compression : Cert.algebraic_Kernel4Ideal_Reference4Ideal_on_compressed_blocks := by
  pair_intro
  case refine_1 => exact fun c => Compression.kout (Compression.proj m c) (Compression.enc m c) (Compression.wa m c) (Compression.wb m c)
  · run_from Cert.Kernel4Ideal.Gen.run_main m g
    · exact fun i _ => congrFun (Compression.final4 m c) i
  · run_from Cert.Reference4Ideal.Value.run m' g'
    · intro i hi
      have h := Cert.Reference4Ideal.Read.val_main_v73_eq (F := Ideal) m' c
      rw [(hagree c).1, (hagree c).2.1, (hagree c).2.2.1, (hagree c).2.2.2] at h
      have hr := on_lt _ _ _ _ i hi
      idx_vars i
      exact (congrFun h _).trans (Compression.kout_eq _ _ _ _ i0 i1 i2 ⟨i3.val, hr⟩ i4).symm

end Cert.Proof

end
-- ==== Proof.lean ====
module

public import proofs.«01_k».proof.Defs
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.On_compressed_blocks
public import proofs.«01_k».proof.Proof.Claims
public import proofs.«01_k».proof.Proof.RetValue
public import proofs.«01_k».proof.Proof.CmpValue
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.On_compressed_blocks.Gen.facts, by
  refine ⟨fun m ρ _ => Cert.Kernel.Gen.frame m ρ, fun m ρ _ => Cert.KernelIdeal.Gen.frame m ρ, ?_, fun m ρ _ => Cert.Kernel2.Gen.frame m ρ,
    fun m ρ _ => Cert.Kernel2Ideal.Gen.frame m ρ, ?_, fun m ρ _ => Cert.Kernel3.Gen.frame m ρ, fun m ρ _ => Cert.Kernel3Ideal.Gen.frame m ρ, ?_,
    fun m ρ _ => Cert.Kernel4.Gen.frame m ρ, fun m ρ _ => Cert.Kernel4Ideal.Gen.frame m ρ, ?_,
    trivial, retention, trivial, inproj, trivial, outproj, trivial, compression⟩
  · exact fun m ρ _ => (θ_run Cert.ReferenceIdeal.defs _ _).mono (fun r h => ⟨fun c => (h c).2, Idealize.ShloMosaic.sem_eq_zero_of_no_sems (by decide) r.2⟩)
      (Cert.ReferenceIdeal.Value.run (F := Ideal) m ρ)
  · exact fun m ρ _ => (θ_run Cert.Reference2Ideal.defs _ _).mono (fun r h => ⟨fun c => (h c).2, Idealize.ShloMosaic.sem_eq_zero_of_no_sems (by decide) r.2⟩)
      (Cert.Reference2Ideal.Value.run (F := Ideal) m ρ)
  · exact fun m ρ _ => (θ_run Cert.Reference3Ideal.defs _ _).mono (fun r h => ⟨fun c => (h c).2.2, Idealize.ShloMosaic.sem_eq_zero_of_no_sems (by decide) r.2⟩)
      (Cert.Reference3Ideal.Value.run (F := Ideal) m ρ)
  · exact fun m ρ _ => (θ_run Cert.Reference4Ideal.defs _ _).mono (fun r h => ⟨fun c => (h c).2, Idealize.ShloMosaic.sem_eq_zero_of_no_sems (by decide) r.2⟩)
      (Cert.Reference4Ideal.Value.run (F := Ideal) m ρ)⟩

end Cert.Proof

end
